-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_and_ones_kept [hPre_scores_finite_and_ones_kept : Cert.Pre_scores_finite_and_ones_kept.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_and_ones_kept.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_and_ones_kept [hPre_scores_finite_and_ones_kept : Cert.Pre_scores_finite_and_ones_kept.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_and_ones_kept.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite_and_ones_kept [hKernelIdeal : Cert.KernelIdeal.Facts] [hPre_scores_finite_and_ones_kept : Cert.Pre_scores_finite_and_ones_kept.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_and_ones_kept m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite_and_ones_kept [hReferenceIdeal : Cert.ReferenceIdeal.Facts] [hPre_scores_finite_and_ones_kept : Cert.Pre_scores_finite_and_ones_kept.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_and_ones_kept m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scores_finite_and_ones_kept [hKernelIdeal : Cert.KernelIdeal.Facts] [hReferenceIdeal : Cert.ReferenceIdeal.Facts] [hPre_scores_finite_and_ones_kept : Cert.Pre_scores_finite_and_ones_kept.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_and_ones_kept m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_finite_and_ones_kept : Cert.Pre_scores_finite_and_ones_kept.Facts),
    quiescent_Kernel (hKernel := hKernel)
    ∧ quiescent_KernelIdeal (hKernelIdeal := hKernelIdeal)
    ∧ quiescent_KernelIdeal_pre_scores_finite_and_ones_kept (hKernelIdeal := hKernelIdeal) (hPre_scores_finite_and_ones_kept := hPre_scores_finite_and_ones_kept)
    ∧ quiescent_ReferenceIdeal (hReferenceIdeal := hReferenceIdeal)
    ∧ quiescent_ReferenceIdeal_pre_scores_finite_and_ones_kept (hReferenceIdeal := hReferenceIdeal) (hPre_scores_finite_and_ones_kept := hPre_scores_finite_and_ones_kept)
    ∧ preserves_Kernel_KernelIdeal
    ∧ algebraic_KernelIdeal_ReferenceIdeal_pre_scores_finite_and_ones_kept (hKernelIdeal := hKernelIdeal) (hReferenceIdeal := hReferenceIdeal) (hPre_scores_finite_and_ones_kept := hPre_scores_finite_and_ones_kept)
-- ==== Pre_scores_finite_and_ones_kept.lean ====
abbrev S34x1024x512 : Shape := ⟨3, ![34, 1024, 512]⟩
abbrev S16384x1024 : Shape := ⟨2, ![16384, 1024]⟩
abbrev S32x640x512 : Shape := ⟨3, ![32, 640, 512]⟩
abbrev S32x1024x512 : Shape := ⟨3, ![32, 1024, 512]⟩
abbrev S_ : Shape := ⟨0, ![]⟩
abbrev S32x8x80x512 : Shape := ⟨4, ![32, 8, 80, 512]⟩
abbrev S32x8x1x512 : Shape := ⟨4, ![32, 8, 1, 512]⟩
abbrev S32x8x512 : Shape := ⟨3, ![32, 8, 512]⟩

class Facts : Prop where
  slices_S34x1024x512_S32x1024x512_0_0_0 : S34x1024x512.Slices ![0, 0, 0] S32x1024x512
  bitsLt_bf16_f32 : FTy.bits .bf16 < FTy.bits .f32
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  shapeCasts_S32x640x512_S32x8x80x512 : S32x640x512.ShapeCasts S32x8x80x512
  slices_S32x8x80x512_S32x8x1x512_0_0_64_0 : S32x8x80x512.Slices ![0, 0, 64, 0] S32x8x1x512
  shapeCasts_S32x8x1x512_S32x8x512 : S32x8x1x512.ShapeCasts S32x8x512
  bcast_S_S32x8x512 : S_.BroadcastsInDim S32x8x512 (![] : Fin 0 → Fin S32x8x512.rank)
  reducesTo_S32x8x512_S_d0_1_2 : S32x8x512.ReducesTo [0, 1, 2] S_

variable [Facts]

def fn_part1 {F : FTy → Type} [FloatOps F] (main_v5 : IVec S_ 1) (main_v10 : IVec S_ 1) (main_v17 : IVec S_ 1) : IVec S_ 1 :=
  let main_v18 : IVec S_ 1 := andi main_v5 main_v10
  let main_v19 : IVec S_ 1 := andi main_v18 main_v17
  main_v19

def fn {F : FTy → Type} [FloatOps F] (main_arg0 : FVec F S34x1024x512 .bf16) (main_arg1 : FVec F S16384x1024 .bf16) (main_arg2 : FVec F S32x640x512 .bf16) : IVec S_ 1 :=
  let main_v0 : FVec F S32x1024x512 .bf16 := (extractStridedSlice S32x1024x512 ![0, 0, 0] · slices_S34x1024x512_S32x1024x512_0_0_0) main_arg0
  let main_v1 : FVec F S32x1024x512 .f32 := (extf .f32 · bitsLt_bf16_f32) main_v0
  let main_v2 : FVec F S32x1024x512 .f32 := Host.absf main_v1
  let main_cst : FVec F S_ .f32 := constant S_ .f32 0x7F800000#32
  let main_v3 : FVec F S32x1024x512 .f32 := broadcastInDim S32x1024x512 ![] bcast_S_S32x1024x512 main_cst
  let main_v4 : IVec S32x1024x512 1 := cmpf .olt main_v2 main_v3
  let main_c : IVec S_ 1 := constantI S_ 1 1#1
  let main_v5 : IVec S_ 1 := (fun x v => Host.reduce IntOp.andi x v reducesTo_S32x1024x512_S_d0_1_2 h_S_) main_v4 main_c
  let main_v6 : FVec F S16384x1024 .f32 := (extf .f32 · bitsLt_bf16_f32) main_arg1
  let main_v7 : FVec F S16384x1024 .f32 := Host.absf main_v6
  let main_cst_0 : FVec F S_ .f32 := constant S_ .f32 0x7F800000#32
  let main_v8 : FVec F S16384x1024 .f32 := broadcastInDim S16384x1024 ![] bcast_S_S16384x1024 main_cst_0
  let main_v9 : IVec S16384x1024 1 := cmpf .olt main_v7 main_v8
  let main_c_1 : IVec S_ 1 := constantI S_ 1 1#1
  let main_v10 : IVec S_ 1 := (fun x v => Host.reduce IntOp.andi x v reducesTo_S16384x1024_S_d0_1 h_S_) main_v9 main_c_1
  let main_v11 : FVec F S32x8x80x512 .bf16 := shapeCast S32x8x80x512 main_arg2 shapeCasts_S32x640x512_S32x8x80x512
  let main_v12 : FVec F S32x8x1x512 .bf16 := (extractStridedSlice S32x8x1x512 ![0, 0, 64, 0] · slices_S32x8x80x512_S32x8x1x512_0_0_64_0) main_v11
  let main_v13 : FVec F S32x8x512 .bf16 := shapeCast S32x8x512 main_v12 shapeCasts_S32x8x1x512_S32x8x512
  let main_v14 : FVec F S32x8x512 .f32 := (extf .f32 · bitsLt_bf16_f32) main_v13
  let main_cst_2 : FVec F S_ .f32 := constant S_ .f32 0x3F800000#32
  let main_v15 : FVec F S32x8x512 .f32 := broadcastInDim S32x8x512 ![] bcast_S_S32x8x512 main_cst_2
  let main_v16 : IVec S32x8x512 1 := cmpf .oeq main_v14 main_v15
  let main_c_3 : IVec S_ 1 := constantI S_ 1 1#1
  let main_v17 : IVec S_ 1 := (fun x v => Host.reduce IntOp.andi x v reducesTo_S32x8x512_S_d0_1_2 h_S_) main_v16 main_c_3
  fn_part1 (F := F) main_v5 main_v10 main_v17
-- ==== Kernel.lean ====
abbrev S34x1024x512 : Shape := ⟨3, ![34, 1024, 512]⟩
abbrev S16384x1024 : Shape := ⟨2, ![16384, 1024]⟩
abbrev S32x640x512 : Shape := ⟨3, ![32, 640, 512]⟩
abbrev S16384x512 : Shape := ⟨2, ![16384, 512]⟩
abbrev S1x1024x512 : Shape := ⟨3, ![1, 1024, 512]⟩
abbrev S8192x1024 : Shape := ⟨2, ![8192, 1024]⟩
abbrev S16x640x512 : Shape := ⟨3, ![16, 640, 512]⟩
abbrev S512x512 : Shape := ⟨2, ![512, 512]⟩
abbrev S8x512 : Shape := ⟨2, ![8, 512]⟩
abbrev S512x128 : Shape := ⟨2, ![512, 128]⟩
abbrev S1x128x512 : Shape := ⟨3, ![1, 128, 512]⟩
abbrev S128x512 : Shape := ⟨2, ![128, 512]⟩
abbrev S1x512 : Shape := ⟨2, ![1, 512]⟩
abbrev S512 : Shape := ⟨1, ![512]⟩
abbrev S1x80x512 : Shape := ⟨3, ![1, 80, 512]⟩
abbrev S80x512 : Shape := ⟨2, ![80, 512]⟩
abbrev S64x512 : Shape := ⟨2, ![64, 512]⟩
abbrev S1x8x512 : Shape := ⟨3, ![1, 8, 512]⟩
abbrev S1 : Shape := ⟨1, ![1]⟩
abbrev S1x1x1 : Shape := ⟨3, ![1, 1, 1]⟩

abbrev nBuf : Space → Nat
  | .hbm => 4
  | .vmem => 10
  | .smem => 0
  | _ => 0

abbrev bufTy : (tb : Table) → Fin (tcTables nBuf tb) → BufTy
  | .hbm, ⟨0, _⟩ => ⟨S34x1024x512, .bf16⟩
  | .hbm, ⟨1, _⟩ => ⟨S16384x1024, .bf16⟩
  | .hbm, ⟨2, _⟩ => ⟨S32x640x512, .bf16⟩
  | .hbm, ⟨3, _⟩ => ⟨S16384x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S8192x1024, .bf16⟩
  | .local _ .vmem, ⟨3, _⟩ => ⟨S16x640x512, .bf16⟩
  | .local _ .vmem, ⟨4, _⟩ => ⟨S512x512, .bf16⟩
  | .local _ .vmem, ⟨5, _⟩ => ⟨S512x512, .bf16⟩
  | .local _ .vmem, ⟨6, _⟩ => ⟨S8x512, .f32⟩
  | .local _ .vmem, ⟨7, _⟩ => ⟨S8x512, .f32⟩
  | .local _ .vmem, ⟨8, _⟩ => ⟨S512x512, .f32⟩
  | .local _ .vmem, ⟨9, _⟩ => ⟨S8x512, .f32⟩
  | _, _ => ⟨S34x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_29 : BitVec 32 := 0#32
  let v85 : BitVec 1 := Scalar.cmpi .sgt v18 c0_i32_29
  let v86 : BitVec 32 := Scalar.extui v85
  let c0_i32_30 : BitVec 32 := 0#32
  let v87 : BitVec 1 := Scalar.cmpi .ne v86 c0_i32_30
  v87

def k0_mult1 : BitVec 32 :=
  let c0_i32_83 : BitVec 32 := 0#32
  c0_i32_83
@[reducible] def k0_t1_loop (i : grid0.Coords) : Scf.Loop 32 :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_34 : BitVec 32 := 1#32
  ⟨c1_i32_32, v92, c1_i32_34⟩
def k0_mult2 (i : grid0.Coords) (k0_t1 : Fin (k0_t1_loop i).trips) : BitVec 32 :=
  let c1_i32_32 : BitVec 32 := 1#32
  let c1_i32_34 : BitVec 32 := 1#32
  let arg10 : BitVec 32 := Scf.iv c1_i32_32 c1_i32_34 k0_t1
  let c512_i32_83 : BitVec 32 := 512#32
  let v167 : BitVec 32 := Scalar.muli arg10 c512_i32_83
  v167
def k0_off1 (i : grid0.Coords) (k0_t1 : Fin (k0_t1_loop i).trips) : Fin 2 → Nat :=
  let c1_i32_32 : BitVec 32 := 1#32
  let c1_i32_34 : BitVec 32 := 1#32
  let arg10 : BitVec 32 := Scf.iv c1_i32_32 c1_i32_34 k0_t1
  let c512_i32_83 : BitVec 32 := 512#32
  let v167 : BitVec 32 := Scalar.muli arg10 c512_i32_83
  let v168 : BitVec 32 := v167
  let v169 : Index := Scalar.indexCast v168
  let c0_84 : Index := 0#32
  ![v169.toNat, 0]
def k0_off2 (i : grid0.Coords) (k0_t1 : Fin (k0_t1_loop i).trips) : Fin 2 → Nat :=
  let c1_i32_32 : BitVec 32 := 1#32
  let c1_i32_34 : BitVec 32 := 1#32
  let arg10 : BitVec 32 := Scf.iv c1_i32_32 c1_i32_34 k0_t1
  let c512_i32_83 : BitVec 32 := 512#32
  let v167 : BitVec 32 := Scalar.muli arg10 c512_i32_83
  let v168 : BitVec 32 := v167
  let v174 : Index := Scalar.indexCast v168
  let c128_89 : Index := 128#32
  ![v174.toNat, 128]
def k0_off3 (i : grid0.Coords) (k0_t1 : Fin (k0_t1_loop i).trips) : Fin 3 → Nat :=
  let c1_i32_32 : BitVec 32 := 1#32
  let c1_i32_34 : BitVec 32 := 1#32
  let arg10 : BitVec 32 := Scf.iv c1_i32_32 c1_i32_34 k0_t1
  let v189 : Index := Scalar.indexCast arg10
  let c0_97 : Index := 0#32
  let c0_98 : Index := 0#32
  ![v189.toNat, 0, 0]
def k0_off4 (i : grid0.Coords) (k0_t1 : Fin (k0_t1_loop i).trips) : Fin 2 → Nat :=
  let c1_i32_32 : BitVec 32 := 1#32
  let c1_i32_34 : BitVec 32 := 1#32
  let arg10 : BitVec 32 := Scf.iv c1_i32_32 c1_i32_34 k0_t1
  let c512_i32_83 : BitVec 32 := 512#32
  let v167 : BitVec 32 := Scalar.muli arg10 c512_i32_83
  let v168 : BitVec 32 := v167
  let v217 : Index := Scalar.indexCast v168
  let c256_114 : Index := 256#32
  ![v217.toNat, 256]
def k0_off5 (i : grid0.Coords) (k0_t1 : Fin (k0_t1_loop i).trips) : Fin 3 → Nat :=
  let c1_i32_32 : BitVec 32 := 1#32
  let c1_i32_34 : BitVec 32 := 1#32
  let arg10 : BitVec 32 := Scf.iv c1_i32_32 c1_i32_34 k0_t1
  let v232 : Index := Scalar.indexCast arg10
  let c80 : Index := 80#32
  let c0_122 : Index := 0#32
  ![v232.toNat, 80, 0]
def k0_off6 (i : grid0.Coords) (k0_t1 : Fin (k0_t1_loop i).trips) : Fin 2 → Nat :=
  let c1_i32_32 : BitVec 32 := 1#32
  let c1_i32_34 : BitVec 32 := 1#32
  let arg10 : BitVec 32 := Scf.iv c1_i32_32 c1_i32_34 k0_t1
  let c512_i32_83 : BitVec 32 := 512#32
  let v167 : BitVec 32 := Scalar.muli arg10 c512_i32_83
  let v168 : BitVec 32 := v167
  let v260 : Index := Scalar.indexCast v168
  let c384_138 : Index := 384#32
  ![v260.toNat, 384]
def k0_off7 (i : grid0.Coords) (k0_t1 : Fin (k0_t1_loop i).trips) : Fin 3 → Nat :=
  let c1_i32_32 : BitVec 32 := 1#32
  let c1_i32_34 : BitVec 32 := 1#32
  let arg10 : BitVec 32 := Scf.iv c1_i32_32 c1_i32_34 k0_t1
  let v275 : Index := Scalar.indexCast arg10
  let c160 : Index := 160#32
  let c0_146 : Index := 0#32
  ![v275.toNat, 160, 0]
def k0_off8 (i : grid0.Coords) (k0_t1 : Fin (k0_t1_loop i).trips) : Fin 2 → Nat :=
  let c1_i32_32 : BitVec 32 := 1#32
  let c1_i32_34 : BitVec 32 := 1#32
  let arg10 : BitVec 32 := Scf.iv c1_i32_32 c1_i32_34 k0_t1
  let c512_i32_83 : BitVec 32 := 512#32
  let v167 : BitVec 32 := Scalar.muli arg10 c512_i32_83
  let v168 : BitVec 32 := v167
  let v303 : Index := Scalar.indexCast v168
  let c512 : Index := 512#32
  ![v303.toNat, 512]
def k0_off9 (i : grid0.Coords) (k0_t1 : Fin (k0_t1_loop i).trips) : Fin 3 → Nat :=
  let c1_i32_32 : BitVec 32 := 1#32
  let c1_i32_34 : BitVec 32 := 1#32
  let arg10 : BitVec 32 := Scf.iv c1_i32_32 c1_i32_34 k0_t1
  let v318 : Index := Scalar.indexCast arg10
  let c240 : Index := 240#32
  let c0_169 : Index := 0#32
  ![v318.toNat, 240, 0]
def k0_off10 (i : grid0.Coords) (k0_t1 : Fin (k0_t1_loop i).trips) : Fin 2 → Nat :=
  let c1_i32_32 : BitVec 32 := 1#32
  let c1_i32_34 : BitVec 32 := 1#32
  let arg10 : BitVec 32 := Scf.iv c1_i32_32 c1_i32_34 k0_t1
  let c512_i32_83 : BitVec 32 := 512#32
  let v167 : BitVec 32 := Scalar.muli arg10 c512_i32_83
  let v168 : BitVec 32 := v167
  let v346 : Index := Scalar.indexCast v168
  let c640 : Index := 640#32
  ![v346.toNat, 640]
def k0_off11 (i : grid0.Coords) (k0_t1 : Fin (k0_t1_loop i).trips) : Fin 3 → Nat :=
  let c1_i32_32 : BitVec 32 := 1#32
  let c1_i32_34 : BitVec 32 := 1#32
  let arg10 : BitVec 32 := Scf.iv c1_i32_32 c1_i32_34 k0_t1
  let v361 : Index := Scalar.indexCast arg10
  let c320_192 : Index := 320#32
  let c0_193 : Index := 0#32
  ![v361.toNat, 320, 0]
def k0_off12 (i : grid0.Coords) (k0_t1 : Fin (k0_t1_loop i).trips) : Fin 2 → Nat :=
  let c1_i32_32 : BitVec 32 := 1#32
  let c1_i32_34 : BitVec 32 := 1#32
  let arg10 : BitVec 32 := Scf.iv c1_i32_32 c1_i32_34 k0_t1
  let c512_i32_83 : BitVec 32 := 512#32
  let v167 : BitVec 32 := Scalar.muli arg10 c512_i32_83
  let v168 : BitVec 32 := v167
  let v389 : Index := Scalar.indexCast v168
  let c768 : Index := 768#32
  ![v389.toNat, 768]
def k0_off13 (i : grid0.Coords) (k0_t1 : Fin (k0_t1_loop i).trips) : Fin 3 → Nat :=
  let c1_i32_32 : BitVec 32 := 1#32
  let c1_i32_34 : BitVec 32 := 1#32
  let arg10 : BitVec 32 := Scf.iv c1_i32_32 c1_i32_34 k0_t1
  let v404 : Index := Scalar.indexCast arg10
  let c400 : Index := 400#32
  let c0_216 : Index := 0#32
  ![v404.toNat, 400, 0]
def k0_off14 (i : grid0.Coords) (k0_t1 : Fin (k0_t1_loop i).trips) : Fin 2 → Nat :=
  let c1_i32_32 : BitVec 32 := 1#32
  let c1_i32_34 : BitVec 32 := 1#32
  let arg10 : BitVec 32 := Scf.iv c1_i32_32 c1_i32_34 k0_t1
  let c512_i32_83 : BitVec 32 := 512#32
  let v167 : BitVec 32 := Scalar.muli arg10 c512_i32_83
  let v168 : BitVec 32 := v167
  let v432 : Index := Scalar.indexCast v168
  let c896 : Index := 896#32
  ![v432.toNat, 896]
def k0_off15 (i : grid0.Coords) (k0_t1 : Fin (k0_t1_loop i).trips) : Fin 3 → Nat :=
  let c1_i32_32 : BitVec 32 := 1#32
  let c1_i32_34 : BitVec 32 := 1#32
  let arg10 : BitVec 32 := Scf.iv c1_i32_32 c1_i32_34 k0_t1
  let v447 : Index := Scalar.indexCast arg10
  let c480 : Index := 480#32
  let c0_239 : Index := 0#32
  ![v447.toNat, 480, 0]
def k0_off16 (i : grid0.Coords) (k0_t1 : Fin (k0_t1_loop i).trips) : Fin 3 → Nat :=
  let c1_i32_32 : BitVec 32 := 1#32
  let c1_i32_34 : BitVec 32 := 1#32
  let arg10 : BitVec 32 := Scf.iv c1_i32_32 c1_i32_34 k0_t1
  let v485 : Index := Scalar.indexCast arg10
  let c560 : Index := 560#32
  let c0_258 : Index := 0#32
  ![v485.toNat, 560, 0]
@[reducible] def k0_t2_loop (i : grid0.Coords) : Scf.Loop 32 :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let v89 : BitVec 32 := Scalar.addi c1_i32_32 v88
  let c1_i32_35 : BitVec 32 := 1#32
  ⟨v92, v89, c1_i32_35⟩
def k0_mult3 (i : grid0.Coords) (k0_t2 : Fin (k0_t2_loop i).trips) : BitVec 32 :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let c512_i32_83 : BitVec 32 := 512#32
  let v167 : BitVec 32 := Scalar.muli arg10 c512_i32_83
  v167
def k0_off17 (i : grid0.Coords) (k0_t2 : Fin (k0_t2_loop i).trips) : Fin 2 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let c512_i32_83 : BitVec 32 := 512#32
  let v167 : BitVec 32 := Scalar.muli arg10 c512_i32_83
  let v168 : BitVec 32 := v167
  let v169 : Index := Scalar.indexCast v168
  let c0_84 : Index := 0#32
  ![v169.toNat, 0]
def k0_off18 (i : grid0.Coords) (k0_t2 : Fin (k0_t2_loop i).trips) : Fin 2 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let c512_i32_83 : BitVec 32 := 512#32
  let v167 : BitVec 32 := Scalar.muli arg10 c512_i32_83
  let v168 : BitVec 32 := v167
  let v174 : Index := Scalar.indexCast v168
  let c128_89 : Index := 128#32
  ![v174.toNat, 128]
def k0_off19 (i : grid0.Coords) (k0_t2 : Fin (k0_t2_loop i).trips) : Fin 3 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let v189 : Index := Scalar.indexCast arg10
  let c0_97 : Index := 0#32
  let c0_98 : Index := 0#32
  ![v189.toNat, 0, 0]
def k0_off20 (i : grid0.Coords) (k0_t2 : Fin (k0_t2_loop i).trips) : Fin 2 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let c512_i32_83 : BitVec 32 := 512#32
  let v167 : BitVec 32 := Scalar.muli arg10 c512_i32_83
  let v168 : BitVec 32 := v167
  let v217 : Index := Scalar.indexCast v168
  let c256_114 : Index := 256#32
  ![v217.toNat, 256]
def k0_off21 (i : grid0.Coords) (k0_t2 : Fin (k0_t2_loop i).trips) : Fin 3 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let v232 : Index := Scalar.indexCast arg10
  let c80 : Index := 80#32
  let c0_122 : Index := 0#32
  ![v232.toNat, 80, 0]
def k0_off22 (i : grid0.Coords) (k0_t2 : Fin (k0_t2_loop i).trips) : Fin 2 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let c512_i32_83 : BitVec 32 := 512#32
  let v167 : BitVec 32 := Scalar.muli arg10 c512_i32_83
  let v168 : BitVec 32 := v167
  let v260 : Index := Scalar.indexCast v168
  let c384_138 : Index := 384#32
  ![v260.toNat, 384]
def k0_off23 (i : grid0.Coords) (k0_t2 : Fin (k0_t2_loop i).trips) : Fin 3 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let v275 : Index := Scalar.indexCast arg10
  let c160 : Index := 160#32
  let c0_146 : Index := 0#32
  ![v275.toNat, 160, 0]
def k0_off24 (i : grid0.Coords) (k0_t2 : Fin (k0_t2_loop i).trips) : Fin 2 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let c512_i32_83 : BitVec 32 := 512#32
  let v167 : BitVec 32 := Scalar.muli arg10 c512_i32_83
  let v168 : BitVec 32 := v167
  let v303 : Index := Scalar.indexCast v168
  let c512 : Index := 512#32
  ![v303.toNat, 512]
def k0_off25 (i : grid0.Coords) (k0_t2 : Fin (k0_t2_loop i).trips) : Fin 3 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let v318 : Index := Scalar.indexCast arg10
  let c240 : Index := 240#32
  let c0_169 : Index := 0#32
  ![v318.toNat, 240, 0]
def k0_off26 (i : grid0.Coords) (k0_t2 : Fin (k0_t2_loop i).trips) : Fin 2 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let c512_i32_83 : BitVec 32 := 512#32
  let v167 : BitVec 32 := Scalar.muli arg10 c512_i32_83
  let v168 : BitVec 32 := v167
  let v346 : Index := Scalar.indexCast v168
  let c640 : Index := 640#32
  ![v346.toNat, 640]
def k0_off27 (i : grid0.Coords) (k0_t2 : Fin (k0_t2_loop i).trips) : Fin 3 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let v361 : Index := Scalar.indexCast arg10
  let c320_192 : Index := 320#32
  let c0_193 : Index := 0#32
  ![v361.toNat, 320, 0]
def k0_off28 (i : grid0.Coords) (k0_t2 : Fin (k0_t2_loop i).trips) : Fin 2 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let c512_i32_83 : BitVec 32 := 512#32
  let v167 : BitVec 32 := Scalar.muli arg10 c512_i32_83
  let v168 : BitVec 32 := v167
  let v389 : Index := Scalar.indexCast v168
  let c768 : Index := 768#32
  ![v389.toNat, 768]
def k0_off29 (i : grid0.Coords) (k0_t2 : Fin (k0_t2_loop i).trips) : Fin 3 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let v404 : Index := Scalar.indexCast arg10
  let c400 : Index := 400#32
  let c0_216 : Index := 0#32
  ![v404.toNat, 400, 0]
def k0_off30 (i : grid0.Coords) (k0_t2 : Fin (k0_t2_loop i).trips) : Fin 2 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let c512_i32_83 : BitVec 32 := 512#32
  let v167 : BitVec 32 := Scalar.muli arg10 c512_i32_83
  let v168 : BitVec 32 := v167
  let v432 : Index := Scalar.indexCast v168
  let c896 : Index := 896#32
  ![v432.toNat, 896]
def k0_off31 (i : grid0.Coords) (k0_t2 : Fin (k0_t2_loop i).trips) : Fin 3 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let v447 : Index := Scalar.indexCast arg10
  let c480 : Index := 480#32
  let c0_239 : Index := 0#32
  ![v447.toNat, 480, 0]
def k0_off32 (i : grid0.Coords) (k0_t2 : Fin (k0_t2_loop i).trips) : Fin 3 → Nat :=
  let c1_i32_32 : BitVec 32 := 1#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v88 : BitVec 32 := Scalar.subi v18 c1_i32_32
  let c1_i32_33 : BitVec 32 := 1#32
  let v90 : BitVec 32 := Scalar.divsi v88 c1_i32_33
  let v91 : BitVec 32 := Scalar.muli v90 c1_i32_33
  let v92 : BitVec 32 := Scalar.addi c1_i32_32 v91
  let c1_i32_35 : BitVec 32 := 1#32
  let arg10 : BitVec 32 := Scf.iv v92 c1_i32_35 k0_t2
  let v485 : Index := Scalar.indexCast arg10
  let c560 : Index := 560#32
  let c0_258 : Index := 0#32
  ![v485.toNat, 560, 0]
def k0_cond2 (i : grid0.Coords) : BitVec 1 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_36 : BitVec 32 := 0#32
  let v93 : BitVec 1 := Scalar.cmpi .sgt v18 c0_i32_36
  let v94 : BitVec 32 := Scalar.extui v93
  let c0_i32_37 : BitVec 32 := 0#32
  let v95 : BitVec 1 := Scalar.cmpi .ne v94 c0_i32_37
  v95

def k0_mult4 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  v167
def k0_off33 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v191 : Index := Scalar.indexCast v168
  let c0_92 : Index := 0#32
  ![v191.toNat, 0]
def k0_off34 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v196 : Index := Scalar.indexCast v168
  let c128_97 : Index := 128#32
  ![v196.toNat, 128]
def k0_off35 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v213 : Index := Scalar.indexCast v18
  let c0_106 : Index := 0#32
  let c0_107 : Index := 0#32
  ![v213.toNat, 0, 0]
def k0_off36 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v241 : Index := Scalar.indexCast v168
  let c256_123 : Index := 256#32
  ![v241.toNat, 256]
def k0_off37 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v258 : Index := Scalar.indexCast v18
  let c80 : Index := 80#32
  let c0_132 : Index := 0#32
  ![v258.toNat, 80, 0]
def k0_off38 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v286 : Index := Scalar.indexCast v168
  let c384_148 : Index := 384#32
  ![v286.toNat, 384]
def k0_off39 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v303 : Index := Scalar.indexCast v18
  let c160 : Index := 160#32
  let c0_157 : Index := 0#32
  ![v303.toNat, 160, 0]
def k0_off40 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v331 : Index := Scalar.indexCast v168
  let c512 : Index := 512#32
  ![v331.toNat, 512]
def k0_off41 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v348 : Index := Scalar.indexCast v18
  let c240 : Index := 240#32
  let c0_181 : Index := 0#32
  ![v348.toNat, 240, 0]
def k0_off42 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v376 : Index := Scalar.indexCast v168
  let c640 : Index := 640#32
  ![v376.toNat, 640]
def k0_off43 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v393 : Index := Scalar.indexCast v18
  let c320_205 : Index := 320#32
  let c0_206 : Index := 0#32
  ![v393.toNat, 320, 0]
def k0_off44 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v421 : Index := Scalar.indexCast v168
  let c768 : Index := 768#32
  ![v421.toNat, 768]
def k0_off45 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v438 : Index := Scalar.indexCast v18
  let c400 : Index := 400#32
  let c0_230 : Index := 0#32
  ![v438.toNat, 400, 0]
def k0_off46 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v466 : Index := Scalar.indexCast v168
  let c896 : Index := 896#32
  ![v466.toNat, 896]
def k0_off47 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v483 : Index := Scalar.indexCast v18
  let c480 : Index := 480#32
  let c0_254 : Index := 0#32
  ![v483.toNat, 480, 0]
def k0_off48 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v523 : Index := Scalar.indexCast v18
  let c560 : Index := 560#32
  let c0_274 : Index := 0#32
  ![v523.toNat, 560, 0]
def k0_cond3 (i : grid0.Coords) : BitVec 1 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_38 : BitVec 32 := 0#32
  let v96 : BitVec 1 := Scalar.cmpi .eq v18 c0_i32_38
  let v97 : BitVec 32 := Scalar.extui v96
  let c0_i32_39 : BitVec 32 := 0#32
  let v98 : BitVec 1 := Scalar.cmpi .ne v97 c0_i32_39
  v98

def k0_mult5 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  v167
def k0_off49 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v191 : Index := Scalar.indexCast v168
  let c0_92 : Index := 0#32
  ![v191.toNat, 0]
def k0_off50 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v196 : Index := Scalar.indexCast v168
  let c128_97 : Index := 128#32
  ![v196.toNat, 128]
def k0_off51 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v213 : Index := Scalar.indexCast v18
  let c0_106 : Index := 0#32
  let c0_107 : Index := 0#32
  ![v213.toNat, 0, 0]
def k0_off52 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v235 : Index := Scalar.indexCast v168
  let c256_119 : Index := 256#32
  ![v235.toNat, 256]
def k0_off53 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v252 : Index := Scalar.indexCast v18
  let c80 : Index := 80#32
  let c0_128 : Index := 0#32
  ![v252.toNat, 80, 0]
def k0_off54 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v274 : Index := Scalar.indexCast v168
  let c384_140 : Index := 384#32
  ![v274.toNat, 384]
def k0_off55 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v291 : Index := Scalar.indexCast v18
  let c160 : Index := 160#32
  let c0_149 : Index := 0#32
  ![v291.toNat, 160, 0]
def k0_off56 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v313 : Index := Scalar.indexCast v168
  let c512 : Index := 512#32
  ![v313.toNat, 512]
def k0_off57 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v330 : Index := Scalar.indexCast v18
  let c240 : Index := 240#32
  let c0_169 : Index := 0#32
  ![v330.toNat, 240, 0]
def k0_off58 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v352 : Index := Scalar.indexCast v168
  let c640 : Index := 640#32
  ![v352.toNat, 640]
def k0_off59 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v369 : Index := Scalar.indexCast v18
  let c320_189 : Index := 320#32
  let c0_190 : Index := 0#32
  ![v369.toNat, 320, 0]
def k0_off60 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v391 : Index := Scalar.indexCast v168
  let c768 : Index := 768#32
  ![v391.toNat, 768]
def k0_off61 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v408 : Index := Scalar.indexCast v18
  let c400 : Index := 400#32
  let c0_210 : Index := 0#32
  ![v408.toNat, 400, 0]
def k0_off62 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_83 : BitVec 32 := 512#32
  let v167 : BitVec 32 := Scalar.muli v18 c512_i32_83
  let v168 : BitVec 32 := v167
  let v430 : Index := Scalar.indexCast v168
  let c896 : Index := 896#32
  ![v430.toNat, 896]
def k0_off63 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v447 : Index := Scalar.indexCast v18
  let c480 : Index := 480#32
  let c0_230 : Index := 0#32
  ![v447.toNat, 480, 0]
def k0_off64 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v481 : Index := Scalar.indexCast v18
  let c560 : Index := 560#32
  let c0_246 : Index := 0#32
  ![v481.toNat, 560, 0]
@[reducible] def k0_t3_loop (i : grid0.Coords) : Scf.Loop 32 :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_95 : BitVec 32 := 1#32
  ⟨c0_i32_93, v183, c1_i32_95⟩
def k0_mult6 (i : grid0.Coords) (k0_t3 : Fin (k0_t3_loop i).trips) : BitVec 32 :=
  let c0_i32_93 : BitVec 32 := 0#32
  let c1_i32_95 : BitVec 32 := 1#32
  let arg10 : BitVec 32 := Scf.iv c0_i32_93 c1_i32_95 k0_t3
  let c512_i32_273 : BitVec 32 := 512#32
  let v521 : BitVec 32 := Scalar.muli arg10 c512_i32_273
  v521
def k0_off65 (i : grid0.Coords) (k0_t3 : Fin (k0_t3_loop i).trips) : Fin 2 → Nat :=
  let c0_i32_93 : BitVec 32 := 0#32
  let c1_i32_95 : BitVec 32 := 1#32
  let arg10 : BitVec 32 := Scf.iv c0_i32_93 c1_i32_95 k0_t3
  let c512_i32_273 : BitVec 32 := 512#32
  let v521 : BitVec 32 := Scalar.muli arg10 c512_i32_273
  let v522 : BitVec 32 := v521
  let v523 : Index := Scalar.indexCast v522
  let c0_274 : Index := 0#32
  ![v523.toNat, 0]
def k0_off66 (i : grid0.Coords) (k0_t3 : Fin (k0_t3_loop i).trips) : Fin 2 → Nat :=
  let c0_i32_93 : BitVec 32 := 0#32
  let c1_i32_95 : BitVec 32 := 1#32
  let arg10 : BitVec 32 := Scf.iv c0_i32_93 c1_i32_95 k0_t3
  let c512_i32_273 : BitVec 32 := 512#32
  let v521 : BitVec 32 := Scalar.muli arg10 c512_i32_273
  let v522 : BitVec 32 := v521
  let v528 : Index := Scalar.indexCast v522
  let c128_279 : Index := 128#32
  ![v528.toNat, 128]
def k0_off67 (i : grid0.Coords) (k0_t3 : Fin (k0_t3_loop i).trips) : Fin 3 → Nat :=
  let c0_i32_93 : BitVec 32 := 0#32
  let c1_i32_95 : BitVec 32 := 1#32
  let arg10 : BitVec 32 := Scf.iv c0_i32_93 c1_i32_95 k0_t3
  let v543 : Index := Scalar.indexCast arg10
  let c0_287 : Index := 0#32
  let c0_288 : Index := 0#32
  ![v543.toNat, 0, 0]
def k0_off68 (i : grid0.Coords) (k0_t3 : Fin (k0_t3_loop i).trips) : Fin 2 → Nat :=
  let c0_i32_93 : BitVec 32 := 0#32
  let c1_i32_95 : BitVec 32 := 1#32
  let arg10 : BitVec 32 := Scf.iv c0_i32_93 c1_i32_95 k0_t3
  let c512_i32_273 : BitVec 32 := 512#32
  let v521 : BitVec 32 := Scalar.muli arg10 c512_i32_273
  let v522 : BitVec 32 := v521
  let v565 : Index := Scalar.indexCast v522
  let c256_300 : Index := 256#32
  ![v565.toNat, 256]
def k0_off69 (i : grid0.Coords) (k0_t3 : Fin (k0_t3_loop i).trips) : Fin 3 → Nat :=
  let c0_i32_93 : BitVec 32 := 0#32
  let c1_i32_95 : BitVec 32 := 1#32
  let arg10 : BitVec 32 := Scf.iv c0_i32_93 c1_i32_95 k0_t3
  let v580 : Index := Scalar.indexCast arg10
  let c80_308 : Index := 80#32
  let c0_309 : Index := 0#32
  ![v580.toNat, 80, 0]
def k0_off70 (i : grid0.Coords) (k0_t3 : Fin (k0_t3_loop i).trips) : Fin 2 → Nat :=
  let c0_i32_93 : BitVec 32 := 0#32
  let c1_i32_95 : BitVec 32 := 1#32
  let arg10 : BitVec 32 := Scf.iv c0_i32_93 c1_i32_95 k0_t3
  let c512_i32_273 : BitVec 32 := 512#32
  let v521 : BitVec 32 := Scalar.muli arg10 c512_i32_273
  let v522 : BitVec 32 := v521
  let v602 : Index := Scalar.indexCast v522
  let c384_321 : Index := 384#32
  ![v602.toNat, 384]
def k0_off71 (i : grid0.Coords) (k0_t3 : Fin (k0_t3_loop i).trips) : Fin 3 → Nat :=
  let c0_i32_93 : BitVec 32 := 0#32
  let c1_i32_95 : BitVec 32 := 1#32
  let arg10 : BitVec 32 := Scf.iv c0_i32_93 c1_i32_95 k0_t3
  let v617 : Index := Scalar.indexCast arg10
  let c160_329 : Index := 160#32
  let c0_330 : Index := 0#32
  ![v617.toNat, 160, 0]
def k0_off72 (i : grid0.Coords) (k0_t3 : Fin (k0_t3_loop i).trips) : Fin 2 → Nat :=
  let c0_i32_93 : BitVec 32 := 0#32
  let c1_i32_95 : BitVec 32 := 1#32
  let arg10 : BitVec 32 := Scf.iv c0_i32_93 c1_i32_95 k0_t3
  let c512_i32_273 : BitVec 32 := 512#32
  let v521 : BitVec 32 := Scalar.muli arg10 c512_i32_273
  let v522 : BitVec 32 := v521
  let v639 : Index := Scalar.indexCast v522
  let c512_342 : Index := 512#32
  ![v639.toNat, 512]
def k0_off73 (i : grid0.Coords) (k0_t3 : Fin (k0_t3_loop i).trips) : Fin 3 → Nat :=
  let c0_i32_93 : BitVec 32 := 0#32
  let c1_i32_95 : BitVec 32 := 1#32
  let arg10 : BitVec 32 := Scf.iv c0_i32_93 c1_i32_95 k0_t3
  let v654 : Index := Scalar.indexCast arg10
  let c240_350 : Index := 240#32
  let c0_351 : Index := 0#32
  ![v654.toNat, 240, 0]
def k0_off74 (i : grid0.Coords) (k0_t3 : Fin (k0_t3_loop i).trips) : Fin 2 → Nat :=
  let c0_i32_93 : BitVec 32 := 0#32
  let c1_i32_95 : BitVec 32 := 1#32
  let arg10 : BitVec 32 := Scf.iv c0_i32_93 c1_i32_95 k0_t3
  let c512_i32_273 : BitVec 32 := 512#32
  let v521 : BitVec 32 := Scalar.muli arg10 c512_i32_273
  let v522 : BitVec 32 := v521
  let v676 : Index := Scalar.indexCast v522
  let c640_363 : Index := 640#32
  ![v676.toNat, 640]
def k0_off75 (i : grid0.Coords) (k0_t3 : Fin (k0_t3_loop i).trips) : Fin 3 → Nat :=
  let c0_i32_93 : BitVec 32 := 0#32
  let c1_i32_95 : BitVec 32 := 1#32
  let arg10 : BitVec 32 := Scf.iv c0_i32_93 c1_i32_95 k0_t3
  let v691 : Index := Scalar.indexCast arg10
  let c320_371 : Index := 320#32
  let c0_372 : Index := 0#32
  ![v691.toNat, 320, 0]
def k0_off76 (i : grid0.Coords) (k0_t3 : Fin (k0_t3_loop i).trips) : Fin 2 → Nat :=
  let c0_i32_93 : BitVec 32 := 0#32
  let c1_i32_95 : BitVec 32 := 1#32
  let arg10 : BitVec 32 := Scf.iv c0_i32_93 c1_i32_95 k0_t3
  let c512_i32_273 : BitVec 32 := 512#32
  let v521 : BitVec 32 := Scalar.muli arg10 c512_i32_273
  let v522 : BitVec 32 := v521
  let v713 : Index := Scalar.indexCast v522
  let c768_384 : Index := 768#32
  ![v713.toNat, 768]
def k0_off77 (i : grid0.Coords) (k0_t3 : Fin (k0_t3_loop i).trips) : Fin 3 → Nat :=
  let c0_i32_93 : BitVec 32 := 0#32
  let c1_i32_95 : BitVec 32 := 1#32
  let arg10 : BitVec 32 := Scf.iv c0_i32_93 c1_i32_95 k0_t3
  let v728 : Index := Scalar.indexCast arg10
  let c400_392 : Index := 400#32
  let c0_393 : Index := 0#32
  ![v728.toNat, 400, 0]
def k0_off78 (i : grid0.Coords) (k0_t3 : Fin (k0_t3_loop i).trips) : Fin 2 → Nat :=
  let c0_i32_93 : BitVec 32 := 0#32
  let c1_i32_95 : BitVec 32 := 1#32
  let arg10 : BitVec 32 := Scf.iv c0_i32_93 c1_i32_95 k0_t3
  let c512_i32_273 : BitVec 32 := 512#32
  let v521 : BitVec 32 := Scalar.muli arg10 c512_i32_273
  let v522 : BitVec 32 := v521
  let v750 : Index := Scalar.indexCast v522
  let c896_405 : Index := 896#32
  ![v750.toNat, 896]
def k0_off79 (i : grid0.Coords) (k0_t3 : Fin (k0_t3_loop i).trips) : Fin 3 → Nat :=
  let c0_i32_93 : BitVec 32 := 0#32
  let c1_i32_95 : BitVec 32 := 1#32
  let arg10 : BitVec 32 := Scf.iv c0_i32_93 c1_i32_95 k0_t3
  let v765 : Index := Scalar.indexCast arg10
  let c480_413 : Index := 480#32
  let c0_414 : Index := 0#32
  ![v765.toNat, 480, 0]
def k0_off80 (i : grid0.Coords) (k0_t3 : Fin (k0_t3_loop i).trips) : Fin 3 → Nat :=
  let c0_i32_93 : BitVec 32 := 0#32
  let c1_i32_95 : BitVec 32 := 1#32
  let arg10 : BitVec 32 := Scf.iv c0_i32_93 c1_i32_95 k0_t3
  let v797 : Index := Scalar.indexCast arg10
  let c560_429 : Index := 560#32
  let c0_430 : Index := 0#32
  ![v797.toNat, 560, 0]
@[reducible] def k0_t4_loop (i : grid0.Coords) : Scf.Loop 32 :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let v180 : BitVec 32 := Scalar.addi c0_i32_93 v179
  let c1_i32_96 : BitVec 32 := 1#32
  ⟨v183, v180, c1_i32_96⟩
def k0_mult7 (i : grid0.Coords) (k0_t4 : Fin (k0_t4_loop i).trips) : BitVec 32 :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let c512_i32_273 : BitVec 32 := 512#32
  let v521 : BitVec 32 := Scalar.muli arg10 c512_i32_273
  v521
def k0_off81 (i : grid0.Coords) (k0_t4 : Fin (k0_t4_loop i).trips) : Fin 2 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let c512_i32_273 : BitVec 32 := 512#32
  let v521 : BitVec 32 := Scalar.muli arg10 c512_i32_273
  let v522 : BitVec 32 := v521
  let v523 : Index := Scalar.indexCast v522
  let c0_274 : Index := 0#32
  ![v523.toNat, 0]
def k0_off82 (i : grid0.Coords) (k0_t4 : Fin (k0_t4_loop i).trips) : Fin 2 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let c512_i32_273 : BitVec 32 := 512#32
  let v521 : BitVec 32 := Scalar.muli arg10 c512_i32_273
  let v522 : BitVec 32 := v521
  let v528 : Index := Scalar.indexCast v522
  let c128_279 : Index := 128#32
  ![v528.toNat, 128]
def k0_off83 (i : grid0.Coords) (k0_t4 : Fin (k0_t4_loop i).trips) : Fin 3 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let v543 : Index := Scalar.indexCast arg10
  let c0_287 : Index := 0#32
  let c0_288 : Index := 0#32
  ![v543.toNat, 0, 0]
def k0_off84 (i : grid0.Coords) (k0_t4 : Fin (k0_t4_loop i).trips) : Fin 2 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let c512_i32_273 : BitVec 32 := 512#32
  let v521 : BitVec 32 := Scalar.muli arg10 c512_i32_273
  let v522 : BitVec 32 := v521
  let v565 : Index := Scalar.indexCast v522
  let c256_300 : Index := 256#32
  ![v565.toNat, 256]
def k0_off85 (i : grid0.Coords) (k0_t4 : Fin (k0_t4_loop i).trips) : Fin 3 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let v580 : Index := Scalar.indexCast arg10
  let c80_308 : Index := 80#32
  let c0_309 : Index := 0#32
  ![v580.toNat, 80, 0]
def k0_off86 (i : grid0.Coords) (k0_t4 : Fin (k0_t4_loop i).trips) : Fin 2 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let c512_i32_273 : BitVec 32 := 512#32
  let v521 : BitVec 32 := Scalar.muli arg10 c512_i32_273
  let v522 : BitVec 32 := v521
  let v602 : Index := Scalar.indexCast v522
  let c384_321 : Index := 384#32
  ![v602.toNat, 384]
def k0_off87 (i : grid0.Coords) (k0_t4 : Fin (k0_t4_loop i).trips) : Fin 3 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let v617 : Index := Scalar.indexCast arg10
  let c160_329 : Index := 160#32
  let c0_330 : Index := 0#32
  ![v617.toNat, 160, 0]
def k0_off88 (i : grid0.Coords) (k0_t4 : Fin (k0_t4_loop i).trips) : Fin 2 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let c512_i32_273 : BitVec 32 := 512#32
  let v521 : BitVec 32 := Scalar.muli arg10 c512_i32_273
  let v522 : BitVec 32 := v521
  let v639 : Index := Scalar.indexCast v522
  let c512_342 : Index := 512#32
  ![v639.toNat, 512]
def k0_off89 (i : grid0.Coords) (k0_t4 : Fin (k0_t4_loop i).trips) : Fin 3 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let v654 : Index := Scalar.indexCast arg10
  let c240_350 : Index := 240#32
  let c0_351 : Index := 0#32
  ![v654.toNat, 240, 0]
def k0_off90 (i : grid0.Coords) (k0_t4 : Fin (k0_t4_loop i).trips) : Fin 2 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let c512_i32_273 : BitVec 32 := 512#32
  let v521 : BitVec 32 := Scalar.muli arg10 c512_i32_273
  let v522 : BitVec 32 := v521
  let v676 : Index := Scalar.indexCast v522
  let c640_363 : Index := 640#32
  ![v676.toNat, 640]
def k0_off91 (i : grid0.Coords) (k0_t4 : Fin (k0_t4_loop i).trips) : Fin 3 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let v691 : Index := Scalar.indexCast arg10
  let c320_371 : Index := 320#32
  let c0_372 : Index := 0#32
  ![v691.toNat, 320, 0]
def k0_off92 (i : grid0.Coords) (k0_t4 : Fin (k0_t4_loop i).trips) : Fin 2 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let c512_i32_273 : BitVec 32 := 512#32
  let v521 : BitVec 32 := Scalar.muli arg10 c512_i32_273
  let v522 : BitVec 32 := v521
  let v713 : Index := Scalar.indexCast v522
  let c768_384 : Index := 768#32
  ![v713.toNat, 768]
def k0_off93 (i : grid0.Coords) (k0_t4 : Fin (k0_t4_loop i).trips) : Fin 3 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let v728 : Index := Scalar.indexCast arg10
  let c400_392 : Index := 400#32
  let c0_393 : Index := 0#32
  ![v728.toNat, 400, 0]
def k0_off94 (i : grid0.Coords) (k0_t4 : Fin (k0_t4_loop i).trips) : Fin 2 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let c512_i32_273 : BitVec 32 := 512#32
  let v521 : BitVec 32 := Scalar.muli arg10 c512_i32_273
  let v522 : BitVec 32 := v521
  let v750 : Index := Scalar.indexCast v522
  let c896_405 : Index := 896#32
  ![v750.toNat, 896]
def k0_off95 (i : grid0.Coords) (k0_t4 : Fin (k0_t4_loop i).trips) : Fin 3 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let v765 : Index := Scalar.indexCast arg10
  let c480_413 : Index := 480#32
  let c0_414 : Index := 0#32
  ![v765.toNat, 480, 0]
def k0_off96 (i : grid0.Coords) (k0_t4 : Fin (k0_t4_loop i).trips) : Fin 3 → Nat :=
  let c0_i32_93 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let v179 : BitVec 32 := Scalar.subi v18 c0_i32_93
  let c1_i32_94 : BitVec 32 := 1#32
  let v181 : BitVec 32 := Scalar.divsi v179 c1_i32_94
  let v182 : BitVec 32 := Scalar.muli v181 c1_i32_94
  let v183 : BitVec 32 := Scalar.addi c0_i32_93 v182
  let c1_i32_96 : BitVec 32 := 1#32
  let arg10 : BitVec 32 := Scf.iv v183 c1_i32_96 k0_t4
  let v797 : Index := Scalar.indexCast arg10
  let c560_429 : Index := 560#32
  let c0_430 : Index := 0#32
  ![v797.toNat, 560, 0]
def k0_mult8 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let c512_i32_98 : BitVec 32 := 512#32
  let v185 : BitVec 32 := Scalar.muli v184 c512_i32_98
  v185
def k0_off97 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let c512_i32_98 : BitVec 32 := 512#32
  let v185 : BitVec 32 := Scalar.muli v184 c512_i32_98
  let v186 : BitVec 32 := v185
  let v209 : Index := Scalar.indexCast v186
  let c0_107 : Index := 0#32
  ![v209.toNat, 0]
def k0_off98 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let c512_i32_98 : BitVec 32 := 512#32
  let v185 : BitVec 32 := Scalar.muli v184 c512_i32_98
  let v186 : BitVec 32 := v185
  let v214 : Index := Scalar.indexCast v186
  let c128_112 : Index := 128#32
  ![v214.toNat, 128]
def k0_off99 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let v231 : Index := Scalar.indexCast v184
  let c0_121 : Index := 0#32
  let c0_122 : Index := 0#32
  ![v231.toNat, 0, 0]
def k0_off100 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let c512_i32_98 : BitVec 32 := 512#32
  let v185 : BitVec 32 := Scalar.muli v184 c512_i32_98
  let v186 : BitVec 32 := v185
  let v253 : Index := Scalar.indexCast v186
  let c256_134 : Index := 256#32
  ![v253.toNat, 256]
def k0_off101 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let v270 : Index := Scalar.indexCast v184
  let c80 : Index := 80#32
  let c0_143 : Index := 0#32
  ![v270.toNat, 80, 0]
def k0_off102 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let c512_i32_98 : BitVec 32 := 512#32
  let v185 : BitVec 32 := Scalar.muli v184 c512_i32_98
  let v186 : BitVec 32 := v185
  let v292 : Index := Scalar.indexCast v186
  let c384_155 : Index := 384#32
  ![v292.toNat, 384]
def k0_off103 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let v309 : Index := Scalar.indexCast v184
  let c160 : Index := 160#32
  let c0_164 : Index := 0#32
  ![v309.toNat, 160, 0]
def k0_off104 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let c512_i32_98 : BitVec 32 := 512#32
  let v185 : BitVec 32 := Scalar.muli v184 c512_i32_98
  let v186 : BitVec 32 := v185
  let v331 : Index := Scalar.indexCast v186
  let c512 : Index := 512#32
  ![v331.toNat, 512]
def k0_off105 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let v348 : Index := Scalar.indexCast v184
  let c240 : Index := 240#32
  let c0_184 : Index := 0#32
  ![v348.toNat, 240, 0]
def k0_off106 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let c512_i32_98 : BitVec 32 := 512#32
  let v185 : BitVec 32 := Scalar.muli v184 c512_i32_98
  let v186 : BitVec 32 := v185
  let v370 : Index := Scalar.indexCast v186
  let c640 : Index := 640#32
  ![v370.toNat, 640]
def k0_off107 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let v387 : Index := Scalar.indexCast v184
  let c320_204 : Index := 320#32
  let c0_205 : Index := 0#32
  ![v387.toNat, 320, 0]
def k0_off108 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let c512_i32_98 : BitVec 32 := 512#32
  let v185 : BitVec 32 := Scalar.muli v184 c512_i32_98
  let v186 : BitVec 32 := v185
  let v409 : Index := Scalar.indexCast v186
  let c768 : Index := 768#32
  ![v409.toNat, 768]
def k0_off109 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let v426 : Index := Scalar.indexCast v184
  let c400 : Index := 400#32
  let c0_225 : Index := 0#32
  ![v426.toNat, 400, 0]
def k0_off110 (i : grid0.Coords) : Fin 2 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let c512_i32_98 : BitVec 32 := 512#32
  let v185 : BitVec 32 := Scalar.muli v184 c512_i32_98
  let v186 : BitVec 32 := v185
  let v448 : Index := Scalar.indexCast v186
  let c896 : Index := 896#32
  ![v448.toNat, 896]
def k0_off111 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let v465 : Index := Scalar.indexCast v184
  let c480 : Index := 480#32
  let c0_245 : Index := 0#32
  ![v465.toNat, 480, 0]
def k0_off112 (i : grid0.Coords) : Fin 3 → Nat :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_97 : BitVec 32 := 0#32
  let v184 : BitVec 32 := Scalar.addi v18 c0_i32_97
  let v499 : Index := Scalar.indexCast v184
  let c560 : Index := 560#32
  let c0_261 : Index := 0#32
  ![v499.toNat, 560, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16x640x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S34x1024x512 : Shape := ⟨3, ![34, 1024, 512]⟩
abbrev S16384x1024 : Shape := ⟨2, ![16384, 1024]⟩
abbrev S32x640x512 : Shape := ⟨3, ![32, 640, 512]⟩
abbrev S32x1024x512 : Shape := ⟨3, ![32, 1024, 512]⟩
abbrev S2x16x8x128x512 : Shape := ⟨5, ![2, 16, 8, 128, 512]⟩
abbrev S2x16x512x8x128 : Shape := ⟨5, ![2, 16, 512, 8, 128]⟩
abbrev S2x8192x8x128 : Shape := ⟨4, ![2, 8192, 8, 128]⟩
abbrev S2x16x8x80x512 : Shape := ⟨5, ![2, 16, 8, 80, 512]⟩
abbrev S2x16x8x64x512 : Shape := ⟨5, ![2, 16, 8, 64, 512]⟩
abbrev S2x16x512x8x64 : Shape := ⟨5, ![2, 16, 512, 8, 64]⟩
abbrev S2x8192x8x64 : Shape := ⟨4, ![2, 8192, 8, 64]⟩
abbrev S2x8x8192x8192 : Shape := ⟨4, ![2, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S16384x512 : Shape := ⟨2, ![16384, 512]⟩

abbrev nBuf : Space → Nat
  | .hbm => 89
  | .vmem => 0
  | .smem => 0
  | _ => 0

abbrev bufTy : (tb : Table) → Fin (tcTables nBuf tb) → BufTy
  | .hbm, ⟨0, _⟩ => ⟨S34x1024x512, .bf16⟩
  | .hbm, ⟨1, _⟩ => ⟨S16384x1024, .bf16⟩
  | .hbm, ⟨2, _⟩ => ⟨S32x640x512, .bf16⟩
  | .hbm, ⟨3, _⟩ => ⟨S32x1024x512, .bf16⟩
  | .hbm, ⟨4, _⟩ => ⟨S32x1024x512, .f32⟩
  | .hbm, ⟨5, _⟩ => ⟨S2x16x8x128x512, .f32⟩
  | .hbm, ⟨6, _⟩ => ⟨S2x16x512x8x128, .f32⟩
  | .hbm, ⟨7, _⟩ => ⟨S2x8192x8x128, .f32⟩
  | .hbm, ⟨8, _⟩ => ⟨S16384x1024, .f32⟩
  | .hbm, ⟨9, _⟩ => ⟨S2x8192x8x128, .f32⟩
  | .hbm, ⟨10, _⟩ => ⟨S32x640x512, .f32⟩
  | .hbm, ⟨11, _⟩ => ⟨S2x16x8x80x512, .f32⟩
  | .hbm, ⟨12, _⟩ => ⟨S2x16x8x64x512, .f32⟩
  | .hbm, ⟨13, _⟩ => ⟨S2x16x512x8x64, .f32⟩
  | .hbm, ⟨14, _⟩ => ⟨S2x8192x8x64, .f32⟩
  | .hbm, ⟨15, _⟩ => ⟨S2x8x8192x8192, .f32⟩
  | .hbm, ⟨16, _⟩ => ⟨S2x8x8192x8192, .bf16⟩
  | .hbm, ⟨17, _⟩ => ⟨S2x8x8192x8192, .f32⟩
  | .hbm, ⟨18, _⟩ => ⟨S_, .f32⟩
  | .hbm, ⟨19, _⟩ => ⟨S_, .f32⟩
  | .hbm, ⟨20, _⟩ => ⟨S2x8x8192x8192, .f32⟩
  | .hbm, ⟨21, _⟩ => ⟨S2x8x8192x8192, .f32⟩
  | .hbm, ⟨22, _⟩ => ⟨S8192, .i32⟩
  | .hbm, ⟨23, _⟩ => ⟨S1x8192, .i32⟩
  | .hbm, ⟨24, _⟩ => ⟨S_, .i32⟩
  | .hbm, ⟨25, _⟩ => ⟨S_, .i32⟩
  | .hbm, ⟨26, _⟩ => ⟨S1x8192, .i32⟩
  | .hbm, ⟨27, _⟩ => ⟨S1x8192, .i32⟩
  | .hbm, ⟨28, _⟩ => ⟨S1x8192, .i32⟩
  | .hbm, ⟨29, _⟩ => ⟨S_, .i32⟩
  | .hbm, ⟨30, _⟩ => ⟨S1x8192, .i32⟩
  | .hbm, ⟨31, _⟩ => ⟨S1x8192, .i1⟩
  | .hbm, ⟨32, _⟩ => ⟨S1x8192, .i32⟩
  | .hbm, ⟨33, _⟩ => ⟨S1x8192, .i32⟩
  | .hbm, ⟨34, _⟩ => ⟨S_, .i32⟩
  | .hbm, ⟨35, _⟩ => ⟨S1x8192, .i32⟩
  | .hbm, ⟨36, _⟩ => ⟨S1x8192, .i1⟩
  | .hbm, ⟨37, _⟩ => ⟨S1x8192, .i1⟩
  | .hbm, ⟨38, _⟩ => ⟨S_, .i32⟩
  | .hbm, ⟨39, _⟩ => ⟨S1x8192, .i32⟩
  | .hbm, ⟨40, _⟩ => ⟨S1x8192, .i32⟩
  | .hbm, ⟨41, _⟩ => ⟨S1x8192, .i32⟩
  | .hbm, ⟨42, _⟩ => ⟨S8192x1, .i32⟩
  | .hbm, ⟨43, _⟩ => ⟨S_, .i32⟩
  | .hbm, ⟨44, _⟩ => ⟨S_, .i32⟩
  | .hbm, ⟨45, _⟩ => ⟨S8192x1, .i32⟩
  | .hbm, ⟨46, _⟩ => ⟨S8192x1, .i32⟩
  | .hbm, ⟨47, _⟩ => ⟨S8192x1, .i32⟩
  | .hbm, ⟨48, _⟩ => ⟨S_, .i32⟩
  | .hbm, ⟨49, _⟩ => ⟨S8192x1, .i32⟩
  | .hbm, ⟨50, _⟩ => ⟨S8192x1, .i1⟩
  | .hbm, ⟨51, _⟩ => ⟨S8192x1, .i32⟩
  | .hbm, ⟨52, _⟩ => ⟨S8192x1, .i32⟩
  | .hbm, ⟨53, _⟩ => ⟨S_, .i32⟩
  | .hbm, ⟨54, _⟩ => ⟨S8192x1, .i32⟩
  | .hbm, ⟨55, _⟩ => ⟨S8192x1, .i1⟩
  | .hbm, ⟨56, _⟩ => ⟨S8192x1, .i1⟩
  | .hbm, ⟨57, _⟩ => ⟨S_, .i32⟩
  | .hbm, ⟨58, _⟩ => ⟨S8192x1, .i32⟩
  | .hbm, ⟨59, _⟩ => ⟨S8192x1, .i32⟩
  | .hbm, ⟨60, _⟩ => ⟨S8192x1, .i32⟩
  | .hbm, ⟨61, _⟩ => ⟨S8192x8192, .i32⟩
  | .hbm, ⟨62, _⟩ => ⟨S8192x8192, .i32⟩
  | .hbm, ⟨63, _⟩ => ⟨S8192x8192, .i1⟩
  | .hbm, ⟨64, _⟩ => ⟨S_, .f32⟩
  | .hbm, ⟨65, _⟩ => ⟨S_, .f32⟩
  | .hbm, ⟨66, _⟩ => ⟨S2x8x8192x8192, .i1⟩
  | .hbm, ⟨67, _⟩ => ⟨S2x8x8192x8192, .f32⟩
  | .hbm, ⟨68, _⟩ => ⟨S2x8x8192x8192, .f32⟩
  | .hbm, ⟨69, _⟩ => ⟨S_, .f32⟩
  | .hbm, ⟨70, _⟩ => ⟨S2x8x8192, .f32⟩
  | .hbm, ⟨71, _⟩ => ⟨S_, .f32⟩
  | .hbm, ⟨72, _⟩ => ⟨S2x8x8192, .f32⟩
  | .hbm, ⟨73, _⟩ => ⟨S2x8x8192, .f32⟩
  | .hbm, ⟨74, _⟩ => ⟨S2x8x8192x1, .f32⟩
  | .hbm, ⟨75, _⟩ => ⟨S2x8x8192x8192, .f32⟩
  | .hbm, ⟨76, _⟩ => ⟨S2x8x8192x8192, .f32⟩
  | .hbm, ⟨77, _⟩ => ⟨S2x8x8192x8192, .f32⟩
  | .hbm, ⟨78, _⟩ => ⟨S_, .f32⟩
  | .hbm, ⟨79, _⟩ => ⟨S2x8x8192, .f32⟩
  | .hbm, ⟨80, _⟩ => ⟨S2x8x8192x1, .f32⟩
  | .hbm, ⟨81, _⟩ => ⟨S2x8x8192x8192, .f32⟩
  | .hbm, ⟨82, _⟩ => ⟨S2x8x8192x8192, .f32⟩
  | .hbm, ⟨83, _⟩ => ⟨S2x8x8192x8192, .bf16⟩
  | .hbm, ⟨84, _⟩ => ⟨S2x8x8192x8192, .f32⟩
  | .hbm, ⟨85, _⟩ => ⟨S2x8x64x8192, .f32⟩
  | .hbm, ⟨86, _⟩ => ⟨S2x8192x8x64, .f32⟩
  | .hbm, ⟨87, _⟩ => ⟨S16384x512, .f32⟩
  | .hbm, ⟨88, _⟩ => ⟨S16384x512, .bf16⟩
  | _, _ => ⟨S34x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v20 : Ref sig .tc := ⟨.hbm, 41, rfl⟩
abbrev main_v21 : Ref sig .tc := ⟨.hbm, 42, rfl⟩
abbrev main_c_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v26 : Ref sig .tc := ⟨.hbm, 68, rfl⟩
abbrev main_cst_2 : Ref sig .tc := ⟨.hbm, 69, rfl⟩
abbrev main_v27 : Ref sig .tc := ⟨.hbm, 70, rfl⟩
abbrev main_cst_3 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst_4 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩

abbrev nD : Nat := 1
abbrev τ : Topo := Topo.v7x

variable {F : FTy → Type} [FloatOps F]
-- ==== Proof.BodyIdeal.lean ====
/- The attention kernel's body run once on whole staging memrefs and scratch, at any contents. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.Proof.FrameIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

/-- A memref held whole at the contents `f`. -/
abbrev pt (c : Dev nD) {sp : Space} {S : Shape} {e : EltTy} (M : Memref sig .tc sp S e) (f : BufTy.Contents (Elt F) M.view.ty) : sProp 𝕄 :=
  (M.view.loc (c : Thread nD τ) ↦[M.view.set]{fullShare} f)

/-- The body, on whole memrefs at any contents: it runs to its end; the queries, keys and values keep their contents,
    the result's memref and the scratch end at some contents. The second sweep is taken or not by the largest gap. -/
theorem body_run (c : Dev nD) (i : grid0.Coords) (arg2 : Memref sig .tc .vmem S1x1024x512 .bf16) (harg2 : arg2.IsWhole) (arg3 : Memref sig .tc .vmem S8192x1024 .bf16) (harg3 : arg3.IsWhole) (arg4 : Memref sig .tc .vmem S16x640x512 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg9 : Memref sig .tc .vmem S8x512 .f32) (harg9 : arg9.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    iprop(pt c arg2 f2 ∗ pt c arg3 f3 ∗ pt c arg4 f4 ∗ pt c arg5 f5 ∗ pt c arg6 f6 ∗ pt c arg7 f7 ∗ pt c arg8 f8 ∗ pt c arg9 f9)
    ⊢ wp frame (wpE (defs₀ (F := F)) Variants.none (c : Thread nD τ) none) Set.univ (cc0_mla_attn i arg2 harg2 arg3 harg3 arg4 harg4 arg5 harg5 arg6 harg6 arg7 harg7 arg8 harg8 arg9 harg9)
      (fun _ => iprop(pt c arg2 f2 ∗ pt c arg3 f3 ∗ pt c arg4 f4 ∗ (∃ f, pt c arg5 f) ∗ (∃ f, pt c arg6 f) ∗ (∃ f, pt c arg7 f) ∗ (∃ f, pt c arg8 f) ∗ (∃ f, pt c arg9 f))) := by
  sl_unfold [cc0_mla_attn]
  iintro ⟨H2, H3, H4, H5, H6, H7, H8, H9⟩
  sl_exec_parts
  by_cases hv : body_run.sl.v106 c i arg2 harg2 arg3 harg3 arg4 harg4 arg5 harg5 arg6 harg6 arg7 harg7 arg8 harg8 arg9 harg9 f2 f3 f4 f6 f7 f8 = 1#1
  · sl_exec_parts
    sl_step
    sl_close
  · sl_exec_parts
    sl_step
    sl_close

end Cert.Proof.FrameIdeal

end
-- ==== Proof.FrameIdeal.lean ====
/- The attention kernel's frame: the body obligation at proof data that say nothing of the result; the run of @main
   from it; the frame claim. -/
module

public import proofs.«01_k».proof.Proof.BodyIdeal

@[expose] public section

set_option maxRecDepth 16384

noncomputable section

namespace Cert.Proof.FrameIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body run on memrefs held through their values: the three inputs' values survive, the result's and the
    scratch's are some values. -/
theorem body_owns (c : Dev nD) (i : grid0.Coords) (arg2 : Memref sig .tc .vmem S1x1024x512 .bf16) (harg2 : arg2.IsWhole) (arg3 : Memref sig .tc .vmem S8192x1024 .bf16) (harg3 : arg3.IsWhole) (arg4 : Memref sig .tc .vmem S16x640x512 .bf16) (harg4 : arg4.IsWhole) (arg5 : Memref sig .tc .vmem S512x512 .bf16) (harg5 : arg5.IsWhole) (x2 : Vec F S1x1024x512 .bf16) (x3 : Vec F S8192x1024 .bf16) (x4 : Vec F S16x640x512 .bf16) :
    iprop(Pipeline.ΦA (U := UR sig nD τ) (Val := Elt F) spec0 c ∗ owns (c : Thread nD τ) arg2 fullShare x2 ∗ owns (c : Thread nD τ) arg3 fullShare x3 ∗ owns (c : Thread nD τ) arg4 fullShare x4 ∗ (∃ d, owns (c : Thread nD τ) arg5 fullShare d))
    ⊢ wp frame (wpE (defs₀ (F := F)) Variants.none (c : Thread nD τ) none) Set.univ (cc0_mla_attn i arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _))
      (fun _ => iprop(Pipeline.ΦA (U := UR sig nD τ) (Val := Elt F) spec0 c ∗ owns (c : Thread nD τ) arg2 fullShare x2 ∗ owns (c : Thread nD τ) arg3 fullShare x3 ∗ owns (c : Thread nD τ) arg4 fullShare x4 ∗ (∃ d, owns (c : Thread nD τ) arg5 fullShare d))) := by
  unfold Pipeline.ΦA
  rw [scopedRest0_eq]
  dsimp only [bigSepL]
  unfold owns
  iintro ⟨⟨⟨⟨%f6, H6⟩, ⟨%f7, H7⟩, ⟨%f8, H8⟩, ⟨%f9, H9⟩⟩, Hr⟩, ⟨%f2, %h2, H2⟩, ⟨%f3, %h3, H3⟩, ⟨%f4, %h4, H4⟩, ⟨%d5, %f5, -, H5⟩⟩
  iapply (wp_wand_r frame (wpE (defs₀ (F := F)) Variants.none (c : Thread nD τ) none) Set.univ (Q := fun _ => iprop(pt c arg2 f2 ∗ pt c arg3 f3 ∗ pt c arg4 f4 ∗ (∃ f, pt c arg5 f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f))))
  isplitr [Hr]
  · iapply (body_run c i arg2 harg2 arg3 harg3 arg4 harg4 arg5 harg5 _ (Memref.isWhole_whole _) _ (Memref.isWhole_whole _) _ (Memref.isWhole_whole _) _ (Memref.isWhole_whole _) f2 f3 f4 f5 f6 f7 f8 f9)
    simp only [pt, Memref.view_whole, View.set_whole]
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %a ⟨H2, H3, H4, ⟨%g5, H5⟩, ⟨%g6, H6⟩, ⟨%g7, H7⟩, ⟨%g8, H8⟩, ⟨%g9, H9⟩⟩
    simp only [pt, Memref.view_whole, View.set_whole]
    isplitl [H6 H7 H8 H9 Hr]
    · isplitr [Hr]
      · isplitl [H6]; · iexists _; iexact H6
        isplitl [H7]; · iexists _; iexact H7
        isplitl [H8]; · iexists _; iexact H8
        iexists _; iexact H9
      · iexact Hr
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    iexists _; iexists _; isplitr; swap; · iexact H5
    ipureintro; rfl

/-! ## The proof data -/

/-- The result's window is the one nothing is said of. -/
def forgets : Fin cfg0.W → Bool
  | ⟨0, _⟩ => false
  | ⟨1, _⟩ => false
  | ⟨2, _⟩ => false
  | ⟨3, _⟩ => true

/-- The arrays as the region finds them; after the body each input's buffer at its block, the result's unnamed; the
    scratch and the generator register at anything; nothing owed; full shares. -/
def dats [∀ e, Nonempty (Elt F e)] (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed ⟨3, h⟩ t
  Φ _ := Pipeline.ΦA spec0 c
  q _ := fullShare
  owed _ := 0

variable [∀ e, Nonempty (Elt F e)]

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The library's body obligation with the result's window forgotten: at each point the kernel on that point's staging
    memrefs, the inputs at their blocks. -/
theorem body_obligation (c : Dev nD) : BodyObligationLoose (dats (F := F) m 0 c) (defs₀ (F := F)) Variants.none () Set.univ forgets := fun t => by
  rw [bigSep_W0, bigSep_W0]
  sl_whnfR [defs₀, Defs.onTc]
  simp only [forgets, before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2]
  iintro ⟨HΦ, Ho, ⟨%d0, H0⟩, ⟨%d1, H1⟩, ⟨%d2, H2⟩, H3⟩
  iapply (wp_wand_r frame (wpE (defs₀ (F := F)) Variants.none (c : Thread nD τ) none) Set.univ (Q := fun _ => iprop(Pipeline.ΦA (U := UR sig nD τ) (Val := Elt F) spec0 c ∗ owns (c : Thread nD τ) (st0_0 t) fullShare (iblk m c 0 t) ∗ owns (c : Thread nD τ) (st0_1 t) fullShare (iblk m c 1 t) ∗ owns (c : Thread nD τ) (st0_2 t) fullShare (iblk m c 2 t) ∗ (∃ d, owns (c : Thread nD τ) (st0_3 t) fullShare d))))
  isplitr [Ho]
  · iapply (body_owns c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) (iblk m c 0 t) (iblk m c 1 t) (iblk m c 2 t))
    isplitl [HΦ]; · iexact HΦ
    isplitl [H0]; · iexact H0
    isplitl [H1]; · iexact H1
    isplitl [H2]; · iexact H2
    iexact H3
  · iintro %a ⟨HΦ, H0, H1, H2, H3⟩
    isplitl [HΦ]; · iexact HΦ
    isplitl [Ho]; · iexact Ho
    isplitl [H0]; · iexact H0
    isplitl [H1]; · iexact H1
    isplitl [H2]; · iexact H2
    iexact H3

/-! ## The run and the frame -/

set_option backward.isDefEq.respectTransparency.types false in
/-- From any memory with zero counters every weakly fair execution of @main terminates; the pipeline's input arrays
    end as launched and every counter at zero. -/
theorem run_main : θ_run defs (onTc (τ := τ) (main (F := F))) (s₀ m ρ)
    (fun r => RDat.FramePost cfg0 (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => body_obligation m c) (hshare := fun c => (dats m 0 c).share_full fun _ => rfl)
    (howed := fun _ _ => rfl) (V := V m) (hmain := hmain m Variants.none) (hA := fun _ _ => rfl) (hΦ := fun _ _ => rfl)

/-- The frame claim: the run, its post read at the argument arrays. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨RDat.FramePost.arr_in h.1 c 0 rfl, RDat.FramePost.arr_in h.1 c 1 rfl, RDat.FramePost.arr_in h.1 c 2 rfl⟩, h.2⟩) (run_main m ρ)

end Cert.Proof.FrameIdeal

end
-- ==== Proof.BodyWords.lean ====
/- The attention kernel's body run once on whole staging memrefs and scratch, at any contents. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Proof.FrameWords

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- A memref held whole at the contents `f`. -/
abbrev pt (c : Dev nD) {sp : Space} {S : Shape} {e : EltTy} (M : Memref sig .tc sp S e) (f : BufTy.Contents (Elt F) M.view.ty) : sProp 𝕄 :=
  (M.view.loc (c : Thread nD τ) ↦[M.view.set]{fullShare} f)

/-- The body, on whole memrefs at any contents: it runs to its end; the queries, keys and values keep their contents,
    the result's memref and the scratch end at some contents. The second sweep is taken or not by the largest gap. -/
theorem body_run (c : Dev nD) (i : grid0.Coords) (arg2 : Memref sig .tc .vmem S1x1024x512 .bf16) (harg2 : arg2.IsWhole) (arg3 : Memref sig .tc .vmem S8192x1024 .bf16) (harg3 : arg3.IsWhole) (arg4 : Memref sig .tc .vmem S16x640x512 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg9 : Memref sig .tc .vmem S8x512 .f32) (harg9 : arg9.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    iprop(pt c arg2 f2 ∗ pt c arg3 f3 ∗ pt c arg4 f4 ∗ pt c arg5 f5 ∗ pt c arg6 f6 ∗ pt c arg7 f7 ∗ pt c arg8 f8 ∗ pt c arg9 f9)
    ⊢ wp frame (wpE (defs₀ (F := F)) Variants.none (c : Thread nD τ) none) Set.univ (cc0_mla_attn i arg2 harg2 arg3 harg3 arg4 harg4 arg5 harg5 arg6 harg6 arg7 harg7 arg8 harg8 arg9 harg9)
      (fun _ => iprop(pt c arg2 f2 ∗ pt c arg3 f3 ∗ pt c arg4 f4 ∗ (∃ f, pt c arg5 f) ∗ (∃ f, pt c arg6 f) ∗ (∃ f, pt c arg7 f) ∗ (∃ f, pt c arg8 f) ∗ (∃ f, pt c arg9 f))) := by
  sl_unfold [cc0_mla_attn]
  iintro ⟨H2, H3, H4, H5, H6, H7, H8, H9⟩
  sl_exec_parts
  by_cases hv : body_run.sl.v106 c i arg2 harg2 arg3 harg3 arg4 harg4 arg5 harg5 arg6 harg6 arg7 harg7 arg8 harg8 arg9 harg9 f2 f3 f4 f6 f7 f8 = 1#1
  · sl_exec_parts
    sl_step
    sl_close
  · sl_exec_parts
    sl_step
    sl_close

end Cert.Proof.FrameWords

end
-- ==== Proof.StepIdeal.lean ====
/- One block of the attention as functions of the values read: the scores of a block of keys, and how the running
   maximum, the running sum and the running weighted values of all eight heads follow from them. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pointwise.Index
public import Idealize.ShloMosaic.Lib.WritesUnit

@[expose] public section

set_option maxRecDepth 16384

noncomputable section

namespace Cert.Proof.Step

open Cert.KernelIdeal Cert.KernelIdeal.Gen
open Idealize.ShloMosaic Idealize.ShloMosaic.TcCoe Idealize.ShloMosaic.Tactic
open Idealize.ShloMosaic.View (ld)

variable {F : FTy → Type} [FloatOps F] [Named F]

/-! ### The values a block reads -/

/-- Head `h`'s 512 keys from row `b` on. -/
def kRows (k : Vec F S8192x1024 .bf16) (b : ℕ) (hb : b + 512 ≤ 8192) (h : Fin 8) : Vec F S512x128 .bf16 :=
  ld k (Rect.unit (s := S8192x1024) ![b, 128 * h.val] S512x128.size
    (Fin.forall_fin_two.mpr ⟨hb, by have := h.isLt; show 128 * h.val + 128 ≤ 1024; omega⟩))

/-- Head `h`'s queries. -/
def qRows (q : Vec F S1x1024x512 .bf16) (h : Fin 8) : Vec F S1x128x512 .bf16 :=
  ld q (Rect.unit (s := S1x1024x512) ![0, 128 * h.val, 0] S1x128x512.size
    (Fin.forall_fin_succ.mpr ⟨Nat.le_refl 1, Fin.forall_fin_two.mpr ⟨by have := h.isLt; show 128 * h.val + 128 ≤ 1024; omega, Nat.le_refl 512⟩⟩))

/-- Head `h`'s rows of block `j` of the values: 64 coordinates, then the row of ones. -/
def vRows (v : Vec F S16x640x512 .bf16) (j : ℕ) (hj : j + 1 ≤ 16) (h : Fin 8) : Vec F S1x80x512 .bf16 :=
  ld v (Rect.unit (s := S16x640x512) ![j, 80 * h.val, 0] S1x80x512.size
    (Fin.forall_fin_succ.mpr ⟨hj, Fin.forall_fin_two.mpr ⟨by have := h.isLt; show 80 * h.val + 80 ≤ 640; omega, Nat.le_refl 512⟩⟩))

/-- Row `h` of an array with one row per head. -/
def row1 (m : Vec F S8x512 .f32) (h : Fin 8) : Vec F S1x512 .f32 :=
  ld m (Rect.unit (s := S8x512) ![h.val, 0] S1x512.size (Fin.forall_fin_two.mpr ⟨by have := h.isLt; show h.val + 1 ≤ 8; omega, Nat.le_refl 512⟩))

/-- Head `h`'s 64 rows of the running weighted values. -/
def row64 (a : Vec F S512x512 .f32) (h : Fin 8) : Vec F S64x512 .f32 :=
  ld a (Rect.unit (s := S512x512) ![64 * h.val, 0] S64x512.size (Fin.forall_fin_two.mpr ⟨by have := h.isLt; show 64 * h.val + 64 ≤ 512; omega, Nat.le_refl 512⟩))

/-! ### One head's step -/

/-- The scores of 512 keys against 512 queries. -/
def score (k : Vec F S512x128 .bf16) (q : Vec F S1x128x512 .bf16) : FVec F S512x512 .f32 :=
  matmul dot_S512x128_S128x512_S512x512_1_0_0_1_n_n none k (shapeCast S128x512 q shapeCasts_S1x128x512_S128x512) (constant S512x512 .f32 0x00000000#32)

/-- The scores with the mask's value where the mask is off. -/
def masked (k : IVec S512x512 1) (s : FVec F S512x512 .f32) : FVec F S512x512 .f32 :=
  select k s (broadcast S512x512 (Named.named κ "mask" 0xF149F2CA#32))

/-- The largest score of each query in the block. -/
def colMax (s : FVec F S512x512 .f32) : FVec F S1x512 .f32 :=
  shapeCast S1x512 (multiReduction .maximumf [0] S512 s 0xFF800000#32 reduces_S512x512_S512 (.inl rfl) rfl) shapeCasts_S512_S1x512

/-- The running maximum after the block. -/
def newMax (s : FVec F S512x512 .f32) (m : FVec F S1x512 .f32) : FVec F S1x512 .f32 := maximumf m (colMax s)

/-- The factor that carries the running sums over to the new maximum. -/
def alpha (s : FVec F S512x512 .f32) (m : FVec F S1x512 .f32) : FVec F S1x512 .f32 := exp2 (subf m (newMax s m))

/-- The weights of the block's values, relative to `r`, times the values. -/
def pv (s : FVec F S512x512 .f32) (r : FVec F S1x512 .f32) (v : Vec F S1x80x512 .bf16) : FVec F S80x512 .f32 :=
  matmul dot_S80x512_S512x512_S80x512_1_0_0_1_n_n none (shapeCast S80x512 v shapeCasts_S1x80x512_S80x512)
    (truncf .bf16 (exp2 (subf s (broadcastTo S512x512 r broadcasts_S1x512_S512x512))) bitsLt_bf16_f32) (constant S80x512 .f32 0x00000000#32)

/-- The new running maximum, as stored. -/
def hM (s : FVec F S512x512 .f32) (m : FVec F S1x512 .f32) : FVec F S1x512 .f32 := shapeCast S1x512 (newMax s m) shapeCasts_S1x512_S1x512

/-- The new running sum, the weights relative to the new maximum. -/
def hL (s : FVec F S512x512 .f32) (v : Vec F S1x80x512 .bf16) (m l : FVec F S1x512 .f32) : FVec F S1x512 .f32 :=
  shapeCast S1x512 (addf (mulf (alpha s m) l) (extractStridedSlice S1x512 ![64, 0] (pv s (newMax s m) v) slices_S80x512_o64_0_S1x512)) shapeCasts_S1x512_S1x512

/-- The new running sum, the weights relative to the old maximum. -/
def hL' (s : FVec F S512x512 .f32) (v : Vec F S1x80x512 .bf16) (m l : FVec F S1x512 .f32) : FVec F S1x512 .f32 :=
  shapeCast S1x512 (mulf (alpha s m) (addf l (extractStridedSlice S1x512 ![64, 0] (pv s m v) slices_S80x512_o64_0_S1x512))) shapeCasts_S1x512_S1x512

/-- The new running weighted values, the weights relative to the new maximum. -/
def hA (s : FVec F S512x512 .f32) (v : Vec F S1x80x512 .bf16) (m : FVec F S1x512 .f32) (a : FVec F S64x512 .f32) : FVec F S64x512 .f32 :=
  shapeCast S64x512 (addf (mulf (broadcastTo S64x512 (alpha s m) broadcasts_S1x512_S64x512) a)
    (extractStridedSlice S64x512 ![0, 0] (pv s (newMax s m) v) slices_S80x512_o0_0_S64x512)) shapeCasts_S64x512_S64x512

/-- The new running weighted values, the weights relative to the old maximum. -/
def hA' (s : FVec F S512x512 .f32) (v : Vec F S1x80x512 .bf16) (m : FVec F S1x512 .f32) (a : FVec F S64x512 .f32) : FVec F S64x512 .f32 :=
  shapeCast S64x512 (mulf (broadcastTo S64x512 (alpha s m) broadcasts_S1x512_S64x512)
    (addf a (extractStridedSlice S64x512 ![0, 0] (pv s m v) slices_S80x512_o0_0_S64x512))) shapeCasts_S64x512_S64x512

/-! ### All heads -/

/-- Eight rows as one array. -/
def put1 (p : Fin 8 → FVec F S1x512 .f32) : Vec F S8x512 .f32 := fun y => p (y 0) (ix2 (0 : Fin 1) (y 1))

/-- Eight groups of 64 rows as one array. -/
def put64 (p : Fin 8 → FVec F S64x512 .f32) : Vec F S512x512 .f32 := fun y =>
  p ⟨(y 0).val / 64, by have : (y 0).val < 512 := (y 0).isLt; omega⟩ (ix2 (⟨(y 0).val % 64, Nat.mod_lt _ (by decide)⟩ : Fin 64) (y 1))

theorem inb1 (h : Fin 8) : ∀ a : Fin 2, (![h.val, 0] : Fin 2 → ℕ) a + S1x512.size a ≤ S8x512.size a :=
  Fin.forall_fin_two.mpr ⟨by have := h.isLt; show h.val + 1 ≤ 8; omega, Nat.le_refl 512⟩

theorem inb64 (h : Fin 8) : ∀ a : Fin 2, (![64 * h.val, 0] : Fin 2 → ℕ) a + S64x512.size a ≤ S512x512.size a :=
  Fin.forall_fin_two.mpr ⟨by have := h.isLt; show 64 * h.val + 64 ≤ 512; omega, Nat.le_refl 512⟩

/-- The eight rows as a list of writes, the last row first. -/
def rows1 (p : Fin 8 → FVec F S1x512 .f32) : List (View.Piece (Elt F) S8x512 .f32) :=
  View.tilePieces (s := S8x512) (NT := 8) S1x512.size (fun h => ![h.val, 0]) inb1 p 8 (Nat.le_refl 8)

/-- The eight groups of rows as a list of writes, the last group first. -/
def rows64 (p : Fin 8 → FVec F S64x512 .f32) : List (View.Piece (Elt F) S512x512 .f32) :=
  View.tilePieces (s := S512x512) (NT := 8) S64x512.size (fun h => ![64 * h.val, 0]) inb64 p 8 (Nat.le_refl 8)

/-- What the eight rows leave, read. -/
theorem read_rows1 {sp : Space} (M : Memref sig .tc sp S8x512 .f32) (f : BufTy.Contents (Elt F) M.view.ty) (p : Fin 8 → FVec F S1x512 .f32) :
    M.view.read (Elt F) (M.view.writes (Elt F) f (rows1 p)) = put1 p := by
  funext y
  obtain ⟨h, q, rfl⟩ : ∃ (h : Fin 8) (q : Fin 512), y = ix2 h q := ⟨y 0, y 1, eq_ix2 y⟩
  refine View.read_tilePieces M.view f _ _ inb1 p 8 (Nat.le_refl 8) (ix2 h q) h h.isLt (ix2 (0 : Fin 1) q)
    (Fin.forall_fin_two.mpr ⟨rfl, (Nat.zero_add _).symm⟩) (0 : Fin 2) fun h' hne => ?_
  show h.val < h'.val ∨ h'.val + 1 ≤ h.val
  have : h'.val ≠ h.val := fun e => hne (Fin.ext e)
  omega

/-- What the eight groups leave, read. -/
theorem read_rows64 {sp : Space} (M : Memref sig .tc sp S512x512 .f32) (f : BufTy.Contents (Elt F) M.view.ty) (p : Fin 8 → FVec F S64x512 .f32) :
    M.view.read (Elt F) (M.view.writes (Elt F) f (rows64 p)) = put64 p := by
  funext y
  obtain ⟨r, q, rfl⟩ : ∃ (r : Fin 512) (q : Fin 512), y = ix2 r q := ⟨y 0, y 1, eq_ix2 y⟩
  have hr := r.isLt
  refine View.read_tilePieces M.view f _ _ inb64 p 8 (Nat.le_refl 8) (ix2 r q) ⟨r.val / 64, by omega⟩ (by show r.val / 64 < 8; omega)
    (ix2 (⟨r.val % 64, Nat.mod_lt _ (by decide)⟩ : Fin 64) q)
    (Fin.forall_fin_two.mpr ⟨by show r.val = 64 * (r.val / 64) + r.val % 64; omega, (Nat.zero_add _).symm⟩) (0 : Fin 2) fun h' hne => ?_
  show r.val < 64 * h'.val ∨ 64 * h'.val + 64 ≤ r.val
  have : h'.val ≠ r.val / 64 := fun e => hne (Fin.ext e)
  omega

/-! ### A block -/

/-- The values kept between blocks: each head's running maximum, running sum and weighted values, and the largest
    rise of a block's maximum over the running one. -/
structure St (F : FTy → Type) [FloatOps F] where
  m : Vec F S8x512 .f32
  l : Vec F S8x512 .f32
  a : Vec F S512x512 .f32
  g : Vec F S8x512 .f32

/-- A block with the scores `s` and the values `v`, the weights relative to the new maximum. -/
def fresh (s : Fin 8 → FVec F S512x512 .f32) (v : Fin 8 → Vec F S1x80x512 .bf16) (x : St F) : St F where
  m := put1 fun h => hM (s h) (row1 x.m h)
  l := put1 fun h => hL (s h) (v h) (row1 x.m h) (row1 x.l h)
  a := put64 fun h => hA (s h) (v h) (row1 x.m h) (row64 x.a h)
  g := x.g

/-- A block with the scores `s` and the values `v`, the weights relative to the old maximum. -/
def stale (s : Fin 8 → FVec F S512x512 .f32) (v : Fin 8 → Vec F S1x80x512 .bf16) (x : St F) : St F where
  m := put1 fun h => hM (s h) (row1 x.m h)
  l := put1 fun h => hL' (s h) (v h) (row1 x.m h) (row1 x.l h)
  a := put64 fun h => hA' (s h) (v h) (row1 x.m h) (row64 x.a h)
  g := put1 fun h => shapeCast S1x512 (maximumf (row1 x.g h) (subf (colMax (s h)) (row1 x.m h))) shapeCasts_S1x512_S1x512

/-- The scores of the block of keys from row `b`. -/
def scores (q : Vec F S1x1024x512 .bf16) (k : Vec F S8192x1024 .bf16) (b : ℕ) (hb : b + 512 ≤ 8192) (h : Fin 8) : FVec F S512x512 .f32 :=
  score (kRows k b hb h) (qRows q h)

/-- Head `h`'s scores in block `j`. -/
def blockScores (q : Vec F S1x1024x512 .bf16) (k : Vec F S8192x1024 .bf16) (j : ℕ) (h : Fin 8) : FVec F S512x512 .f32 :=
  scores q k (512 * (j % 16)) (by omega) h

/-- Head `h`'s values in block `j`. -/
def blockValues (v : Vec F S16x640x512 .bf16) (j : ℕ) (h : Fin 8) : Vec F S1x80x512 .bf16 := vRows v (j % 16) (by omega) h

theorem scores_eq (q : Vec F S1x1024x512 .bf16) (k : Vec F S8192x1024 .bf16) {b j : ℕ} (hb : b + 512 ≤ 8192) (e : b = 512 * j) :
    scores q k b hb = blockScores q k j := by
  funext h
  have : b = 512 * (j % 16) := by omega
  subst this
  rfl

theorem vRows_eq (v : Vec F S16x640x512 .bf16) {b j : ℕ} (hb : b + 1 ≤ 16) (e : b = j) : vRows v b hb = blockValues v j := by
  funext h
  have : b = j % 16 := by omega
  subst this
  rfl

/-- Block `j` unmasked, the weights relative to the new maximum. -/
def freshAt (q : Vec F S1x1024x512 .bf16) (k : Vec F S8192x1024 .bf16) (v : Vec F S16x640x512 .bf16) (j : ℕ) (x : St F) : St F :=
  fresh (blockScores q k j) (blockValues v j) x

/-- Block `j` unmasked, the weights relative to the old maximum. -/
def staleAt (q : Vec F S1x1024x512 .bf16) (k : Vec F S8192x1024 .bf16) (v : Vec F S16x640x512 .bf16) (j : ℕ) (x : St F) : St F :=
  stale (blockScores q k j) (blockValues v j) x

/-- Block `j` under the mask `w`, the weights relative to the new maximum. -/
def freshMasked (w : IVec S512x512 1) (q : Vec F S1x1024x512 .bf16) (k : Vec F S8192x1024 .bf16) (v : Vec F S16x640x512 .bf16) (j : ℕ) (x : St F) : St F :=
  fresh (fun h => masked w (blockScores q k j h)) (blockValues v j) x

/-- Block `j` under the mask `w`, the weights relative to the old maximum. -/
def staleMasked (w : IVec S512x512 1) (q : Vec F S1x1024x512 .bf16) (k : Vec F S8192x1024 .bf16) (v : Vec F S16x640x512 .bf16) (j : ℕ) (x : St F) : St F :=
  stale (fun h => masked w (blockScores q k j h)) (blockValues v j) x

/-- The blocks `1, …, n` after the state `x`. -/
def staleUpTo (q : Vec F S1x1024x512 .bf16) (k : Vec F S8192x1024 .bf16) (v : Vec F S16x640x512 .bf16) (x : St F) : ℕ → St F
  | 0 => x
  | n + 1 => staleAt q k v (n + 1) (staleUpTo q k v x n)

/-- The blocks `0, …, n - 1` after the state `x`. -/
def freshUpTo (q : Vec F S1x1024x512 .bf16) (k : Vec F S8192x1024 .bf16) (v : Vec F S16x640x512 .bf16) (x : St F) : ℕ → St F
  | 0 => x
  | n + 1 => freshAt q k v n (freshUpTo q k v x n)

/-- What four contents read. -/
def St.of {sp : Space} (M6 M7 M9 : Memref sig .tc sp S8x512 .f32) (M8 : Memref sig .tc sp S512x512 .f32) (g6 : BufTy.Contents (Elt F) M6.view.ty) (g7 : BufTy.Contents (Elt F) M7.view.ty)
    (g8 : BufTy.Contents (Elt F) M8.view.ty) (g9 : BufTy.Contents (Elt F) M9.view.ty) : St F :=
  ⟨M6.view.read (Elt F) g6, M7.view.read (Elt F) g7, M8.view.read (Elt F) g8, M9.view.read (Elt F) g9⟩

end Cert.Proof.Step

end
-- ==== Proof.WordsIdeal.lean ====
/- The kernel's integers: which branches tile `i` takes, how many trips its loops make, and which rows it reads. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.LoopRemainder

@[expose] public section

set_option maxRecDepth 16384

noncomputable section

namespace Cert.Proof.Words

open Cert.KernelIdeal Cert.KernelIdeal.Gen
open Idealize.ShloMosaic Idealize.ShloMosaic.TcCoe

/-- The tile number of a grid point. -/
abbrev tile (i : grid0.Coords) : ℕ := (i 1).val

theorem tile_lt (i : grid0.Coords) : (i 1).val < 16 := (i 1).isLt

theorem cond1 (i : grid0.Coords) : k0_cond1 i = 1#1 ↔ 0 < tile i := by
  have h := tile_lt i
  unfold tile
  unfold k0_cond1
  generalize (i 1).val = n at *
  interval_cases n <;> decide

theorem cond2 (i : grid0.Coords) : k0_cond2 i = 1#1 ↔ 0 < tile i := by
  have h := tile_lt i
  unfold tile
  unfold k0_cond2
  generalize (i 1).val = n at *
  interval_cases n <;> decide

theorem cond3 (i : grid0.Coords) : k0_cond3 i = 1#1 ↔ tile i = 0 := by
  have h := tile_lt i
  unfold tile
  unfold k0_cond3
  generalize (i 1).val = n at *
  interval_cases n <;> decide

theorem trips1 (i : grid0.Coords) : (k0_t1_loop i).trips = tile i - 1 := by
  have h := tile_lt i
  unfold tile
  unfold k0_t1_loop
  generalize (i 1).val = n at *
  interval_cases n <;> decide

theorem trips2 (i : grid0.Coords) : (k0_t2_loop i).trips = 0 := by
  have h := tile_lt i
  unfold k0_t2_loop
  generalize (i 1).val = n at *
  interval_cases n <;> decide

theorem trips3 (i : grid0.Coords) : (k0_t3_loop i).trips = tile i := by
  have h := tile_lt i
  unfold tile
  unfold k0_t3_loop
  generalize (i 1).val = n at *
  interval_cases n <;> decide

theorem trips4 (i : grid0.Coords) : (k0_t4_loop i).trips = 0 := by
  have h := tile_lt i
  unfold k0_t4_loop
  generalize (i 1).val = n at *
  interval_cases n <;> decide

theorem off33 (i : grid0.Coords) : k0_off33 i 0 = 512 * tile i := by
  have h := tile_lt i
  unfold tile
  unfold k0_off33
  generalize (i 1).val = n at *
  interval_cases n <;> decide

theorem off35 (i : grid0.Coords) : k0_off35 i 0 = tile i := by
  have h := tile_lt i
  unfold tile
  unfold k0_off35
  generalize (i 1).val = n at *
  interval_cases n <;> decide

theorem off49 (i : grid0.Coords) : k0_off49 i 0 = 512 * tile i := by
  have h := tile_lt i
  unfold tile
  unfold k0_off49
  generalize (i 1).val = n at *
  interval_cases n <;> decide

theorem off51 (i : grid0.Coords) : k0_off51 i 0 = tile i := by
  have h := tile_lt i
  unfold tile
  unfold k0_off51
  generalize (i 1).val = n at *
  interval_cases n <;> decide

theorem off97 (i : grid0.Coords) : k0_off97 i 0 = 512 * tile i := by
  have h := tile_lt i
  unfold tile
  unfold k0_off97
  generalize (i 1).val = n at *
  interval_cases n <;> decide

theorem off99 (i : grid0.Coords) : k0_off99 i 0 = tile i := by
  have h := tile_lt i
  unfold tile
  unfold k0_off99
  generalize (i 1).val = n at *
  interval_cases n <;> decide

theorem off1 (i : grid0.Coords) (k : Fin (k0_t1_loop i).trips) : k0_off1 i k 0 = 512 * (k.val + 1) := by
  have hk : k.val < 16 := lt_of_lt_of_le k.isLt (le_trans (le_of_eq (trips1 i)) (by have := tile_lt i; unfold tile; omega))
  unfold k0_off1
  generalize k.val = n at *
  interval_cases n <;> decide

theorem off3 (i : grid0.Coords) (k : Fin (k0_t1_loop i).trips) : k0_off3 i k 0 = k.val + 1 := by
  have hk : k.val < 16 := lt_of_lt_of_le k.isLt (le_trans (le_of_eq (trips1 i)) (by have := tile_lt i; unfold tile; omega))
  unfold k0_off3
  generalize k.val = n at *
  interval_cases n <;> decide

theorem off65 (i : grid0.Coords) (k : Fin (k0_t3_loop i).trips) : k0_off65 i k 0 = 512 * k.val := by
  have hk : k.val < 16 := lt_of_lt_of_le k.isLt (le_trans (le_of_eq (trips3 i)) (by have := tile_lt i; unfold tile; omega))
  unfold k0_off65
  generalize k.val = n at *
  interval_cases n <;> decide

theorem off67 (i : grid0.Coords) (k : Fin (k0_t3_loop i).trips) : k0_off67 i k 0 = k.val := by
  have hk : k.val < 16 := lt_of_lt_of_le k.isLt (le_trans (le_of_eq (trips3 i)) (by have := tile_lt i; unfold tile; omega))
  unfold k0_off67
  generalize k.val = n at *
  interval_cases n <;> decide

end Cert.Proof.Words

end
-- ==== Proof.TripIdeal.lean ====
/- One trip of each counted loop writes what a block of the attention computes. -/
module

public import proofs.«01_k».proof.Proof.StepIdeal
public import proofs.«01_k».proof.Proof.WordsIdeal
public import Idealize.ShloMosaic.Lib.Pointwise.Index
public import Idealize.ShloMosaic.Lib.WritesUnit

@[expose] public section

set_option maxRecDepth 16384

noncomputable section

namespace Cert.Proof.Step

open Cert.KernelIdeal Cert.KernelIdeal.Gen
open Idealize.ShloMosaic Idealize.ShloMosaic.TcCoe Idealize.ShloMosaic.Tactic
open Idealize.ShloMosaic.View (ld)

variable {F : FTy → Type} [FloatOps F] [Named F]

variable (𝒱 : Variants) (c : Dev nD) (bd : Option 𝒱.V) (i : grid0.Coords)
  (arg2 : Memref sig .tc .vmem S1x1024x512 .bf16) (harg2 : arg2.IsWhole) (arg3 : Memref sig .tc .vmem S8192x1024 .bf16) (harg3 : arg3.IsWhole)
  (arg4 : Memref sig .tc .vmem S16x640x512 .bf16) (harg4 : arg4.IsWhole) (arg5 : Memref sig .tc .vmem S512x512 .bf16) (harg5 : arg5.IsWhole)
  (arg6 : Memref sig .tc .vmem S8x512 .f32) (harg6 : arg6.IsWhole) (arg7 : Memref sig .tc .vmem S8x512 .f32) (harg7 : arg7.IsWhole)
  (arg8 : Memref sig .tc .vmem S512x512 .f32) (harg8 : arg8.IsWhole) (arg9 : Memref sig .tc .vmem S8x512 .f32) (harg9 : arg9.IsWhole)
  (v1 : BitVec 32) (v18 : BitVec 32) (v43 : IVec S512x512 32) (v68 : IVec S512x512 32) (v81 : FVec F S512x512 .f32)
  (X2 : BufTy.Contents (Elt F) arg2.view.ty) (X3 : BufTy.Contents (Elt F) arg3.view.ty) (X4 : BufTy.Contents (Elt F) arg4.view.ty)
  (f6 : BufTy.Contents (Elt F) arg6.view.ty) (f7 : BufTy.Contents (Elt F) arg7.view.ty) (f8 : BufTy.Contents (Elt F) arg8.view.ty) (f9 : BufTy.Contents (Elt F) arg9.view.ty)

/-- The first row of keys of trip `k`. -/
abbrev b1 (k : Fin (k0_t1_loop i).trips) : ℕ := k0_off1 i k 0

/-- The block of values of trip `k`. -/
abbrev j1 (k : Fin (k0_t1_loop i).trips) : ℕ := k0_off3 i k 0

theorem t1_m (k : Fin (k0_t1_loop i).trips) :
    (trip_k0_t1 (F := F) 𝒱 c bd i arg2 harg2 arg3 harg3 arg4 harg4 arg5 harg5 arg6 harg6 arg7 harg7 arg8 harg8 arg9 harg9 v1 v18 v43 v68 v81 X2 X3 X4 k).1 f6 f7 f8 f9
      = rows1 fun h => hM (scores (arg2.view.read (Elt F) X2) (arg3.view.read (Elt F) X3) (b1 i k) (k0_off1_inb i k 0) h) (row1 (arg6.view.read (Elt F) f6) h) := by
  unfold trip_k0_t1
  rfl

theorem t1_l (k : Fin (k0_t1_loop i).trips) :
    (trip_k0_t1 (F := F) 𝒱 c bd i arg2 harg2 arg3 harg3 arg4 harg4 arg5 harg5 arg6 harg6 arg7 harg7 arg8 harg8 arg9 harg9 v1 v18 v43 v68 v81 X2 X3 X4 k).2.1 f6 f7 f8 f9
      = rows1 fun h => hL' (scores (arg2.view.read (Elt F) X2) (arg3.view.read (Elt F) X3) (b1 i k) (k0_off1_inb i k 0) h) (vRows (arg4.view.read (Elt F) X4) (j1 i k) (k0_off3_inb i k 0) h) (row1 (arg6.view.read (Elt F) f6) h) (row1 (arg7.view.read (Elt F) f7) h) := by
  unfold trip_k0_t1
  rfl

theorem t1_a (k : Fin (k0_t1_loop i).trips) :
    (trip_k0_t1 (F := F) 𝒱 c bd i arg2 harg2 arg3 harg3 arg4 harg4 arg5 harg5 arg6 harg6 arg7 harg7 arg8 harg8 arg9 harg9 v1 v18 v43 v68 v81 X2 X3 X4 k).2.2.1 f6 f7 f8 f9
      = rows64 fun h => hA' (scores (arg2.view.read (Elt F) X2) (arg3.view.read (Elt F) X3) (b1 i k) (k0_off1_inb i k 0) h) (vRows (arg4.view.read (Elt F) X4) (j1 i k) (k0_off3_inb i k 0) h) (row1 (arg6.view.read (Elt F) f6) h) (row64 (arg8.view.read (Elt F) f8) h) := by
  unfold trip_k0_t1
  rfl

theorem t1_g (k : Fin (k0_t1_loop i).trips) :
    (trip_k0_t1 (F := F) 𝒱 c bd i arg2 harg2 arg3 harg3 arg4 harg4 arg5 harg5 arg6 harg6 arg7 harg7 arg8 harg8 arg9 harg9 v1 v18 v43 v68 v81 X2 X3 X4 k).2.2.2.1 f6 f7 f8 f9
      = rows1 fun h => shapeCast S1x512 (maximumf (row1 (arg9.view.read (Elt F) f9) h) (subf (colMax (scores (arg2.view.read (Elt F) X2) (arg3.view.read (Elt F) X3) (b1 i k) (k0_off1_inb i k 0) h)) (row1 (arg6.view.read (Elt F) f6) h))) shapeCasts_S1x512_S1x512 := by
  unfold trip_k0_t1
  rfl

/-- The first row of keys of trip `k` of the second sweep. -/
abbrev b3 (k : Fin (k0_t3_loop i).trips) : ℕ := k0_off65 i k 0

/-- The block of values of trip `k` of the second sweep. -/
abbrev j3 (k : Fin (k0_t3_loop i).trips) : ℕ := k0_off67 i k 0

theorem t3_m (k : Fin (k0_t3_loop i).trips) :
    (trip_k0_t3 (F := F) 𝒱 c bd i arg2 harg2 arg3 harg3 arg4 harg4 arg5 harg5 arg6 harg6 arg7 harg7 arg8 harg8 arg9 harg9 v1 v18 X2 X3 X4 k).1 f6 f7 f8
      = rows1 fun h => hM (scores (arg2.view.read (Elt F) X2) (arg3.view.read (Elt F) X3) (b3 i k) (k0_off65_inb i k 0) h) (row1 (arg6.view.read (Elt F) f6) h) := by
  unfold trip_k0_t3
  rfl

theorem t3_l (k : Fin (k0_t3_loop i).trips) :
    (trip_k0_t3 (F := F) 𝒱 c bd i arg2 harg2 arg3 harg3 arg4 harg4 arg5 harg5 arg6 harg6 arg7 harg7 arg8 harg8 arg9 harg9 v1 v18 X2 X3 X4 k).2.1 f6 f7 f8
      = rows1 fun h => hL (scores (arg2.view.read (Elt F) X2) (arg3.view.read (Elt F) X3) (b3 i k) (k0_off65_inb i k 0) h) (vRows (arg4.view.read (Elt F) X4) (j3 i k) (k0_off67_inb i k 0) h) (row1 (arg6.view.read (Elt F) f6) h) (row1 (arg7.view.read (Elt F) f7) h) := by
  unfold trip_k0_t3
  rfl

theorem t3_a (k : Fin (k0_t3_loop i).trips) :
    (trip_k0_t3 (F := F) 𝒱 c bd i arg2 harg2 arg3 harg3 arg4 harg4 arg5 harg5 arg6 harg6 arg7 harg7 arg8 harg8 arg9 harg9 v1 v18 X2 X3 X4 k).2.2.1 f6 f7 f8
      = rows64 fun h => hA (scores (arg2.view.read (Elt F) X2) (arg3.view.read (Elt F) X3) (b3 i k) (k0_off65_inb i k 0) h) (vRows (arg4.view.read (Elt F) X4) (j3 i k) (k0_off67_inb i k 0) h) (row1 (arg6.view.read (Elt F) f6) h) (row64 (arg8.view.read (Elt F) f8) h) := by
  unfold trip_k0_t3
  rfl

/-- Trip `k` of the first sweep is block `k + 1`. -/
theorem t1_state (k : Fin (k0_t1_loop i).trips) :
    St.of arg6 arg7 arg9 arg8 (arg6.view.writes (Elt F) f6 ((trip_k0_t1 (F := F) 𝒱 c bd i arg2 harg2 arg3 harg3 arg4 harg4 arg5 harg5 arg6 harg6 arg7 harg7 arg8 harg8 arg9 harg9 v1 v18 v43 v68 v81 X2 X3 X4 k).1 f6 f7 f8 f9)) (arg7.view.writes (Elt F) f7 ((trip_k0_t1 (F := F) 𝒱 c bd i arg2 harg2 arg3 harg3 arg4 harg4 arg5 harg5 arg6 harg6 arg7 harg7 arg8 harg8 arg9 harg9 v1 v18 v43 v68 v81 X2 X3 X4 k).2.1 f6 f7 f8 f9))
      (arg8.view.writes (Elt F) f8 ((trip_k0_t1 (F := F) 𝒱 c bd i arg2 harg2 arg3 harg3 arg4 harg4 arg5 harg5 arg6 harg6 arg7 harg7 arg8 harg8 arg9 harg9 v1 v18 v43 v68 v81 X2 X3 X4 k).2.2.1 f6 f7 f8 f9)) (arg9.view.writes (Elt F) f9 ((trip_k0_t1 (F := F) 𝒱 c bd i arg2 harg2 arg3 harg3 arg4 harg4 arg5 harg5 arg6 harg6 arg7 harg7 arg8 harg8 arg9 harg9 v1 v18 v43 v68 v81 X2 X3 X4 k).2.2.2.1 f6 f7 f8 f9))
      = staleAt (arg2.view.read (Elt F) X2) (arg3.view.read (Elt F) X3) (arg4.view.read (Elt F) X4) (k.val + 1) (St.of arg6 arg7 arg9 arg8 f6 f7 f8 f9) := by
  rw [t1_m, t1_l, t1_a, t1_g]
  unfold St.of
  rw [read_rows1, read_rows1, read_rows1, read_rows64]
  unfold staleAt
  rw [← scores_eq _ _ (k0_off1_inb i k 0) (Words.off1 i k), ← vRows_eq _ (k0_off3_inb i k 0) (Words.off3 i k)]
  rfl

/-- Trip `k` of the second sweep is block `k`. -/
theorem t3_state (k : Fin (k0_t3_loop i).trips) :
    St.of arg6 arg7 arg9 arg8 (arg6.view.writes (Elt F) f6 ((trip_k0_t3 (F := F) 𝒱 c bd i arg2 harg2 arg3 harg3 arg4 harg4 arg5 harg5 arg6 harg6 arg7 harg7 arg8 harg8 arg9 harg9 v1 v18 X2 X3 X4 k).1 f6 f7 f8)) (arg7.view.writes (Elt F) f7 ((trip_k0_t3 (F := F) 𝒱 c bd i arg2 harg2 arg3 harg3 arg4 harg4 arg5 harg5 arg6 harg6 arg7 harg7 arg8 harg8 arg9 harg9 v1 v18 X2 X3 X4 k).2.1 f6 f7 f8))
      (arg8.view.writes (Elt F) f8 ((trip_k0_t3 (F := F) 𝒱 c bd i arg2 harg2 arg3 harg3 arg4 harg4 arg5 harg5 arg6 harg6 arg7 harg7 arg8 harg8 arg9 harg9 v1 v18 X2 X3 X4 k).2.2.1 f6 f7 f8)) f9
      = freshAt (arg2.view.read (Elt F) X2) (arg3.view.read (Elt F) X3) (arg4.view.read (Elt F) X4) k.val (St.of arg6 arg7 arg9 arg8 f6 f7 f8 f9) := by
  rw [t3_m, t3_l, t3_a]
  unfold St.of
  rw [read_rows1, read_rows1, read_rows64]
  unfold freshAt
  rw [← scores_eq _ _ (k0_off65_inb i k 0) (Words.off65 i k), ← vRows_eq _ (k0_off67_inb i k 0) (Words.off67 i k)]
  rfl

/-- The first sweep's loop after `n` trips. -/
theorem t1_loop (n : ℕ) (hn : n ≤ (k0_t1_loop i).trips) :
    St.of arg6 arg7 arg9 arg8 (arg6.view.writes (Elt F) f6 (pb_k0_t1 (F := F) 𝒱 c bd i arg2 harg2 arg3 harg3 arg4 harg4 arg5 harg5 arg6 harg6 arg7 harg7 arg8 harg8 arg9 harg9 v1 v18 v43 v68 v81 X2 X3 X4 f6 f7 f8 f9 n).1) (arg7.view.writes (Elt F) f7 (pb_k0_t1 (F := F) 𝒱 c bd i arg2 harg2 arg3 harg3 arg4 harg4 arg5 harg5 arg6 harg6 arg7 harg7 arg8 harg8 arg9 harg9 v1 v18 v43 v68 v81 X2 X3 X4 f6 f7 f8 f9 n).2.1)
      (arg8.view.writes (Elt F) f8 (pb_k0_t1 (F := F) 𝒱 c bd i arg2 harg2 arg3 harg3 arg4 harg4 arg5 harg5 arg6 harg6 arg7 harg7 arg8 harg8 arg9 harg9 v1 v18 v43 v68 v81 X2 X3 X4 f6 f7 f8 f9 n).2.2.1) (arg9.view.writes (Elt F) f9 (pb_k0_t1 (F := F) 𝒱 c bd i arg2 harg2 arg3 harg3 arg4 harg4 arg5 harg5 arg6 harg6 arg7 harg7 arg8 harg8 arg9 harg9 v1 v18 v43 v68 v81 X2 X3 X4 f6 f7 f8 f9 n).2.2.2)
      = staleUpTo (arg2.view.read (Elt F) X2) (arg3.view.read (Elt F) X3) (arg4.view.read (Elt F) X4) (St.of arg6 arg7 arg9 arg8 f6 f7 f8 f9) n := by
  induction n with
  | zero => rfl
  | succ n ih =>
    have hs := pb_k0_t1_succ (F := F) 𝒱 c bd i arg2 harg2 arg3 harg3 arg4 harg4 arg5 harg5 arg6 harg6 arg7 harg7 arg8 harg8 arg9 harg9 v1 v18 v43 v68 v81 X2 X3 X4 f6 f7 f8 f9 ⟨n, hn⟩
    rw [show ((⟨n, hn⟩ : Fin (k0_t1_loop i).trips).val + 1) = n + 1 from rfl] at hs
    rw [hs]
    dsimp only
    rw [View.writes_append, View.writes_append, View.writes_append, View.writes_append, t1_state, ih (Nat.le_of_succ_le hn)]
    rfl

/-- The second sweep's loop after `n` trips. -/
theorem t3_loop (n : ℕ) (hn : n ≤ (k0_t3_loop i).trips) :
    St.of arg6 arg7 arg9 arg8 (arg6.view.writes (Elt F) f6 (pb_k0_t3 (F := F) 𝒱 c bd i arg2 harg2 arg3 harg3 arg4 harg4 arg5 harg5 arg6 harg6 arg7 harg7 arg8 harg8 arg9 harg9 v1 v18 X2 X3 X4 f6 f7 f8 n).1) (arg7.view.writes (Elt F) f7 (pb_k0_t3 (F := F) 𝒱 c bd i arg2 harg2 arg3 harg3 arg4 harg4 arg5 harg5 arg6 harg6 arg7 harg7 arg8 harg8 arg9 harg9 v1 v18 X2 X3 X4 f6 f7 f8 n).2.1)
      (arg8.view.writes (Elt F) f8 (pb_k0_t3 (F := F) 𝒱 c bd i arg2 harg2 arg3 harg3 arg4 harg4 arg5 harg5 arg6 harg6 arg7 harg7 arg8 harg8 arg9 harg9 v1 v18 X2 X3 X4 f6 f7 f8 n).2.2) f9
      = freshUpTo (arg2.view.read (Elt F) X2) (arg3.view.read (Elt F) X3) (arg4.view.read (Elt F) X4) (St.of arg6 arg7 arg9 arg8 f6 f7 f8 f9) n := by
  induction n with
  | zero => rfl
  | succ n ih =>
    have hs := pb_k0_t3_succ (F := F) 𝒱 c bd i arg2 harg2 arg3 harg3 arg4 harg4 arg5 harg5 arg6 harg6 arg7 harg7 arg8 harg8 arg9 harg9 v1 v18 X2 X3 X4 f6 f7 f8 ⟨n, hn⟩
    rw [show ((⟨n, hn⟩ : Fin (k0_t3_loop i).trips).val + 1) = n + 1 from rfl] at hs
    rw [hs]
    dsimp only
    rw [View.writes_append, View.writes_append, View.writes_append, t3_state, ih (Nat.le_of_succ_le hn)]
    rfl

end Cert.Proof.Step

end
-- ==== Proof.SweepIdeal.lean ====
/- The two sweeps of one tile of queries as functions of the values read, and the tile's result. -/
module

public import proofs.«01_k».proof.Proof.TripIdeal

@[expose] public section

set_option maxRecDepth 16384

noncomputable section

namespace Cert.Proof.Step

open Cert.KernelIdeal Cert.KernelIdeal.Gen
open Idealize.ShloMosaic Idealize.ShloMosaic.TcCoe Idealize.ShloMosaic.Tactic
open Idealize.ShloMosaic.View (ld)

variable {F : FTy → Type} [FloatOps F] [Named F]

/-- The first query of the tile, as the kernel computes it. -/
def start (i : grid0.Coords) : BitVec 32 := Scalar.addi 0#32 (Scalar.muli (BitVec.ofNat 32 (i 1).val) 512#32)

/-- The number of blocks before the tile's own, as the kernel computes it. -/
def before (i : grid0.Coords) : BitVec 32 :=
  Scalar.select (Scalar.andi (Scalar.cmpi .ne (Scalar.subi (Scalar.extui (Scalar.cmpi .sgt (start i) 0#32)) (Scalar.extui (Scalar.cmpi .slt (start i) 0#32)))
      (Scalar.subi (Scalar.extui (Scalar.cmpi .sgt 512#32 0#32)) (Scalar.extui (Scalar.cmpi .slt 512#32 0#32)))) (Scalar.cmpi .ne (Scalar.remsi (start i) 512#32) 0#32))
    (Scalar.subi (Scalar.divsi (start i) 512#32) 1#32) (Scalar.divsi (start i) 512#32)

/-- The mask of the tile's own block: a key's group of 64 is no later than the query's. -/
def diag (i : grid0.Coords) : IVec S512x512 1 :=
  k0_pay212 (start i) (before i) (k0_pay550 k0_pay547 k0_pay548 k0_pay549) k0_pay551

/-- The shift between a key's and a query's place in the tile's own block, as the second sweep computes it. -/
def shift (i : grid0.Coords) : BitVec 32 := Scalar.subi (Scalar.muli (Scalar.addi (before i) 0#32) 512#32) (start i)

/-- The mask of the tile's own block, as the second sweep computes it. -/
def diagAgain (i : grid0.Coords) : IVec S512x512 1 :=
  k0_pay481 (k0_pay550 k0_pay547 k0_pay548 k0_pay549) k0_pay551 (shift i) 64#32 (Scalar.divsi (shift i) 64#32)
    (Scalar.subi (Scalar.extui (Scalar.cmpi .sgt (shift i) 0#32)) (Scalar.extui (Scalar.cmpi .slt (shift i) 0#32)))
    (Scalar.subi (Scalar.extui (Scalar.cmpi .sgt 64#32 0#32)) (Scalar.extui (Scalar.cmpi .slt 64#32 0#32)))

/-- The state before any block. -/
def init : St F := ⟨k0_pay553, k0_pay554, k0_pay556 k0_pay555, k0_pay552⟩

/-- The state before the second sweep: nothing seen, the gap as it stood. -/
def again (x : St F) : St F := ⟨k0_pay474, k0_pay475, k0_pay476, x.g⟩

/-- The first sweep: block 0 relative to its own maximum, the others relative to the running one. -/
def sweep (i : grid0.Coords) (q : Vec F S1x1024x512 .bf16) (k : Vec F S8192x1024 .bf16) (v : Vec F S16x640x512 .bf16) : St F :=
  if 0 < Words.tile i then staleMasked (diag i) q k v (Words.tile i) (staleUpTo q k v (freshAt q k v 0 init) (Words.tile i - 1))
  else freshMasked (diag i) q k v (Words.tile i) init

/-- The second sweep: every block relative to the maximum so far. -/
def resweep (i : grid0.Coords) (q : Vec F S1x1024x512 .bf16) (k : Vec F S8192x1024 .bf16) (v : Vec F S16x640x512 .bf16) (x : St F) : St F :=
  freshMasked (diagAgain i) q k v (Words.tile i) (freshUpTo q k v (again x) (Words.tile i))

/-- The word that asks for the second sweep: the largest rise is over 64. -/
def risen (x : St F) : BitVec 1 :=
  Scalar.cmpi .ne (Scalar.extui (Scalar.cmpf .ogt (k0_pay572 x.g) (Scalar.ofBits .f32 0x42800000#32)) : BitVec 32) 0#32

/-- The state after the sweeps. -/
def last (i : grid0.Coords) (q : Vec F S1x1024x512 .bf16) (k : Vec F S8192x1024 .bf16) (v : Vec F S16x640x512 .bf16) : St F :=
  if risen (sweep i q k v) = 1#1 then resweep i q k v (sweep i q k v) else sweep i q k v

/-- One head's weighted values over its running sum. -/
def quot (a : FVec F S64x512 .f32) (l : FVec F S1x512 .f32) : FVec F S64x512 .f32 :=
  shapeCast S64x512 (divf a (broadcastTo S64x512 l broadcasts_S1x512_S64x512)) shapeCasts_S64x512_S64x512

/-- The tile's result from the state after the sweeps. -/
def result (x : St F) : FVec F S512x512 .bf16 := k0_pay4 (put64 fun h => quot (row64 x.a h) (row1 x.l h))

/-- The tile's result. -/
def tileOut (i : grid0.Coords) (q : Vec F S1x1024x512 .bf16) (k : Vec F S8192x1024 .bf16) (v : Vec F S16x640x512 .bf16) : FVec F S512x512 .bf16 :=
  result (last i q k v)

/-! ### Contents as states -/

/-- One write over a whole memref leaves its payload. -/
theorem read_all {sp : Space} {S : Shape} {e : EltTy} (M : Memref sig .tc sp S e) (f : BufTy.Contents (Elt F) M.view.ty) {off : Fin S.rank → ℕ} (inb : ∀ a, off a + S.size a ≤ S.size a)
    (w : Vec F S e) : M.view.read (Elt F) (M.view.writes (Elt F) f [⟨Rect.unit off S.size inb, w⟩]) = w := by
  funext y
  exact View.read_writes_cons_unit_of_mem M.view f inb w [] y y rfl fun a => by have := inb a; omega

variable {sp : Space} {M6 M7 M9 : Memref sig .tc sp S8x512 .f32} {M8 : Memref sig .tc sp S512x512 .f32} {f6 : BufTy.Contents (Elt F) M6.view.ty} {f7 : BufTy.Contents (Elt F) M7.view.ty}
  {f8 : BufTy.Contents (Elt F) M8.view.ty} {f9 : BufTy.Contents (Elt F) M9.view.ty}

/-- The writes of a block relative to the new maximum. -/
theorem of_fresh (s : Fin 8 → FVec F S512x512 .f32) (v : Fin 8 → Vec F S1x80x512 .bf16) (x : St F) {L6 L7 : List (View.Piece (Elt F) S8x512 .f32)} {L8 : List (View.Piece (Elt F) S512x512 .f32)}
    (e6 : L6 = rows1 fun h => hM (s h) (row1 x.m h)) (e7 : L7 = rows1 fun h => hL (s h) (v h) (row1 x.m h) (row1 x.l h))
    (e8 : L8 = rows64 fun h => hA (s h) (v h) (row1 x.m h) (row64 x.a h)) (e9 : M9.view.read (Elt F) f9 = x.g) :
    St.of M6 M7 M9 M8 (M6.view.writes (Elt F) f6 L6) (M7.view.writes (Elt F) f7 L7) (M8.view.writes (Elt F) f8 L8) f9 = fresh s v x := by
  subst e6 e7 e8
  unfold St.of
  rw [read_rows1, read_rows1, read_rows64, e9]
  rfl

/-- The writes of a block relative to the old maximum. -/
theorem of_stale (s : Fin 8 → FVec F S512x512 .f32) (v : Fin 8 → Vec F S1x80x512 .bf16) (x : St F) {L6 L7 L9 : List (View.Piece (Elt F) S8x512 .f32)} {L8 : List (View.Piece (Elt F) S512x512 .f32)}
    (e6 : L6 = rows1 fun h => hM (s h) (row1 x.m h)) (e7 : L7 = rows1 fun h => hL' (s h) (v h) (row1 x.m h) (row1 x.l h))
    (e8 : L8 = rows64 fun h => hA' (s h) (v h) (row1 x.m h) (row64 x.a h))
    (e9 : L9 = rows1 fun h => shapeCast S1x512 (maximumf (row1 x.g h) (subf (colMax (s h)) (row1 x.m h))) shapeCasts_S1x512_S1x512) :
    St.of M6 M7 M9 M8 (M6.view.writes (Elt F) f6 L6) (M7.view.writes (Elt F) f7 L7) (M8.view.writes (Elt F) f8 L8) (M9.view.writes (Elt F) f9 L9) = stale s v x := by
  subst e6 e7 e8 e9
  unfold St.of
  rw [read_rows1, read_rows1, read_rows1, read_rows64]
  rfl

/-- A head's rows of eight groups are its group. -/
theorem row64_put64 (p : Fin 8 → FVec F S64x512 .f32) (h : Fin 8) : row64 (put64 p) h = p h := by
  funext y
  obtain ⟨r, q, rfl⟩ : ∃ (r : Fin 64) (q : Fin 512), y = ix2 r q := ⟨y 0, y 1, eq_ix2 y⟩
  have hr := r.isLt
  have hh := h.isLt
  show p ⟨(64 * h.val + 1 * r.val) / 64, _⟩ (ix2 (⟨(64 * h.val + 1 * r.val) % 64, _⟩ : Fin 64) ⟨0 + 1 * q.val, _⟩) = p h (ix2 r q)
  refine congrArg₂ (fun a b => p a b) ?_ ?_
  · exact (Fin.ext (by show (64 * h.val + 1 * r.val) / 64 = h.val; omega))
  · exact congrArg₂ ix2 (Fin.ext (by show (64 * h.val + 1 * r.val) % 64 = r.val; omega)) (Fin.ext (by show 0 + 1 * q.val = q.val; omega))

/-- A head's row of eight rows is its row. -/
theorem row1_put1 (p : Fin 8 → FVec F S1x512 .f32) (h : Fin 8) : row1 (put1 p) h = p h := by
  funext y
  obtain ⟨r, q, rfl⟩ : ∃ (r : Fin 1) (q : Fin 512), y = ix2 r q := ⟨y 0, y 1, eq_ix2 y⟩
  have hr := r.isLt
  show p ⟨h.val + 1 * r.val, _⟩ (ix2 (0 : Fin 1) ⟨0 + 1 * q.val, _⟩) = p h (ix2 r q)
  refine congrArg₂ (fun a b => p a b) ?_ ?_
  · exact (Fin.ext (by show h.val + 1 * r.val = h.val; omega))
  · exact congrArg₂ ix2 (Fin.ext (by show 0 = r.val; omega)) (Fin.ext (by show 0 + 1 * q.val = q.val; omega))

end Cert.Proof.Step

end
-- ==== Proof.RunIdeal.lean ====
/- The attention kernel's body run once on whole staging memrefs and scratch: what its result's memref holds. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.SweepIdeal

@[expose] public section

set_option maxRecDepth 16384

noncomputable section

namespace Cert.Proof.Step

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

/-- A memref held whole at the contents `f`. -/
abbrev pt (c : Dev nD) {sp : Space} {S : Shape} {e : EltTy} (M : Memref sig .tc sp S e) (f : BufTy.Contents (Elt F) M.view.ty) : sProp 𝕄 :=
  (M.view.loc (c : Thread nD τ) ↦[M.view.set]{fullShare} f)

/-- A load of a whole memref is what it reads. -/
theorem ld_all {sp : Space} {S : Shape} {e : EltTy} (M : Memref sig .tc sp S e) (f : BufTy.Contents (Elt F) M.view.ty) {off : Fin S.rank → ℕ} (inb : ∀ a, off a + S.size a ≤ S.size a) :
    View.readAt (Elt F) M.view (Rect.unit off S.size inb).toLoadRect f = M.view.read (Elt F) f := by
  rw [View.readAt_eq_ld]
  funext y
  show M.view.read (Elt F) f _ = _
  congr 1
  funext a
  exact Fin.ext (by show off a + 1 * (y a).val = (y a).val; have := inb a; omega)

set_option maxHeartbeats 8000000 in
/-- The body, on whole memrefs at any contents: it runs to its end; the queries, keys and values keep their contents,
    the result's memref and the scratch end at some contents. The second sweep is taken or not by the largest gap. -/
theorem body_value (c : Dev nD) (i : grid0.Coords) (arg2 : Memref sig .tc .vmem S1x1024x512 .bf16) (harg2 : arg2.IsWhole) (arg3 : Memref sig .tc .vmem S8192x1024 .bf16) (harg3 : arg3.IsWhole) (arg4 : Memref sig .tc .vmem S16x640x512 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg9 : Memref sig .tc .vmem S8x512 .f32) (harg9 : arg9.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    iprop(pt c arg2 f2 ∗ pt c arg3 f3 ∗ pt c arg4 f4 ∗ pt c arg5 f5 ∗ pt c arg6 f6 ∗ pt c arg7 f7 ∗ pt c arg8 f8 ∗ pt c arg9 f9)
    ⊢ wp frame (wpE (defs₀ (F := F)) Variants.none (c : Thread nD τ) none) Set.univ (cc0_mla_attn i arg2 harg2 arg3 harg3 arg4 harg4 arg5 harg5 arg6 harg6 arg7 harg7 arg8 harg8 arg9 harg9)
      (fun _ => iprop(pt c arg2 f2 ∗ pt c arg3 f3 ∗ pt c arg4 f4 ∗ (∃ f, pt c arg5 f ∗ ⌜arg5.view.read (Elt F) f = tileOut i (arg2.view.read (Elt F) f2) (arg3.view.read (Elt F) f3) (arg4.view.read (Elt F) f4)⌝) ∗ (∃ f, pt c arg6 f) ∗ (∃ f, pt c arg7 f) ∗ (∃ f, pt c arg8 f) ∗ (∃ f, pt c arg9 f))) := by
  sl_unfold [cc0_mla_attn]
  iintro ⟨H2, H3, H4, H5, H6, H7, H8, H9⟩
  set_option sl_exec.stopBefore "k0_cond1" in sl_exec
  generalize e6 : arg6.view.writes (Elt F) f6 _ = g6
  generalize e7 : arg7.view.writes (Elt F) f7 _ = g7
  generalize e8 : arg8.view.writes (Elt F) f8 _ = g8
  generalize e9 : arg9.view.writes (Elt F) f9 _ = g9
  have hS0 : St.of arg6 arg7 arg9 arg8 g6 g7 g8 g9 = init := by
    rw [← e6, ← e7, ← e8, ← e9]
    unfold St.of
    rw [read_all, read_all, read_all, read_all]
    rfl
  clear e6 e7 e8 e9
  by_cases h1 : k0_cond1 i = 1#1
  case' pos =>
    have h2 : k0_cond2 i = 1#1 := (Words.cond2 i).2 ((Words.cond1 i).1 h1)
    have h3 : ¬ k0_cond3 i = 1#1 := fun h => absurd ((Words.cond3 i).1 h) (Nat.ne_of_gt ((Words.cond1 i).1 h1))
    set_option sl_exec.stopBefore "k0_cond2" in sl_exec
    generalize e6 : arg6.view.writes (Elt F) arg6.view.junk _ = g6'
    generalize e7 : arg7.view.writes (Elt F) arg7.view.junk _ = g7'
    generalize e8 : arg8.view.writes (Elt F) arg8.view.junk _ = g8'
    generalize e9 : arg9.view.writes (Elt F) g9 _ = g9'
    have hS1 : St.of arg6 arg7 arg9 arg8 g6' g7' g8' g9' = staleUpTo (arg2.view.read (Elt F) f2) (arg3.view.read (Elt F) f3) (arg4.view.read (Elt F) f4) (freshAt (arg2.view.read (Elt F) f2) (arg3.view.read (Elt F) f3) (arg4.view.read (Elt F) f4) 0 init) (Words.tile i - 1) := by
      rw [← e6, ← e7, ← e8, ← e9, ← hS0, View.writes_append, View.writes_append, View.writes_append]
      refine (t1_loop _ _ _ _ _ _ _ _ _ _ _ _ _ _ _ _ _ _ _ _ _ _ _ _ _ _ _ _ _ _ _ _ _ (Nat.le_refl _)).trans ?_
      rw [Words.trips1]
      refine congrArg (fun x => staleUpTo (arg2.view.read (Elt F) f2) (arg3.view.read (Elt F) f3) (arg4.view.read (Elt F) f4) x (Words.tile i - 1)) ?_
      exact of_fresh (blockScores (arg2.view.read (Elt F) f2) (arg3.view.read (Elt F) f3) 0) (blockValues (arg4.view.read (Elt F) f4) 0) (St.of arg6 arg7 arg9 arg8 g6 g7 g8 g9) rfl rfl rfl rfl
    clear e6 e7 e8 e9 hS0
    set_option sl_exec.stopBefore "k0_cond3" in sl_exec
    generalize e6 : arg6.view.writes (Elt F) g6' _ = k6
    generalize e7 : arg7.view.writes (Elt F) g7' _ = k7
    generalize e8 : arg8.view.writes (Elt F) g8' _ = k8
    generalize e9 : arg9.view.writes (Elt F) g9' _ = k9
    have hS2 : St.of arg6 arg7 arg9 arg8 k6 k7 k8 k9 = sweep i (arg2.view.read (Elt F) f2) (arg3.view.read (Elt F) f3) (arg4.view.read (Elt F) f4) := by
      rw [← e6, ← e7, ← e8, ← e9]
      unfold sweep staleMasked
      rw [if_pos ((Words.cond1 i).1 h1), ← hS1, ← scores_eq _ _ (k0_off33_inb i h2 0) (Words.off33 i), ← vRows_eq _ (k0_off35_inb i h2 0) (Words.off35 i)]
      exact of_stale (fun h => masked (diag i) (scores (arg2.view.read (Elt F) f2) (arg3.view.read (Elt F) f3) (k0_off33 i 0) (k0_off33_inb i h2 0) h)) (vRows (arg4.view.read (Elt F) f4) (k0_off35 i 0) (k0_off35_inb i h2 0)) (St.of arg6 arg7 arg9 arg8 g6' g7' g8' g9') rfl rfl rfl rfl
    clear e6 e7 e8 e9 hS1
    sl_exec
  case' neg =>
    have h2 : ¬ k0_cond2 i = 1#1 := fun h => h1 ((Words.cond1 i).2 ((Words.cond2 i).1 h))
    have h3 : k0_cond3 i = 1#1 := (Words.cond3 i).2 (Nat.eq_zero_of_not_pos fun h => h1 ((Words.cond1 i).2 h))
    have h0 : Words.tile i = 0 := (Words.cond3 i).1 h3
    set_option sl_exec.stopBefore "k0_cond3" in sl_exec
    generalize e6 : arg6.view.writes (Elt F) g6 _ = g6'
    generalize e7 : arg7.view.writes (Elt F) g7 _ = g7'
    generalize e8 : arg8.view.writes (Elt F) g8 _ = g8'
    generalize e9 : arg9.view.writes (Elt F) g9 _ = k9
    have hS1 : St.of arg6 arg7 arg9 arg8 g6' g7' g8' k9 = init := by
      rw [← e6, ← e7, ← e8, ← e9]
      refine (t1_loop _ _ _ _ _ _ _ _ _ _ _ _ _ _ _ _ _ _ _ _ _ _ _ _ _ _ _ _ _ _ _ _ _ (Nat.le_refl _)).trans ?_
      rw [Words.trips1, h0]
      exact hS0
    clear e6 e7 e8 e9 hS0
    set_option sl_exec.stopBefore "v106" in sl_exec
    generalize e6 : arg6.view.writes (Elt F) _ _ = k6
    generalize e7 : arg7.view.writes (Elt F) _ _ = k7
    generalize e8 : arg8.view.writes (Elt F) _ _ = k8
    have hS2 : St.of arg6 arg7 arg9 arg8 k6 k7 k8 k9 = sweep i (arg2.view.read (Elt F) f2) (arg3.view.read (Elt F) f3) (arg4.view.read (Elt F) f4) := by
      rw [← e6, ← e7, ← e8]
      unfold sweep freshMasked
      rw [if_neg (fun h => h1 ((Words.cond1 i).2 h)), ← hS1, ← scores_eq _ _ (k0_off49_inb i h3 0) (Words.off49 i), ← vRows_eq _ (k0_off51_inb i h3 0) (Words.off51 i)]
      exact of_fresh (fun h => masked (diag i) (scores (arg2.view.read (Elt F) f2) (arg3.view.read (Elt F) f3) (k0_off49 i 0) (k0_off49_inb i h3 0) h)) (vRows (arg4.view.read (Elt F) f4) (k0_off51 i 0) (k0_off51_inb i h3 0)) (St.of arg6 arg7 arg9 arg8 g6' g7' g8' k9) rfl rfl rfl rfl
    clear e6 e7 e8 hS1
  all_goals
    have hr : body_value.sl.v106 arg9 k9 = Scalar.cmpi .ne (Scalar.extui (Scalar.cmpf .ogt (k0_pay572 (View.readAt (Elt F) arg9.view (Rect.unit (s := S8x512) ![0, 0] S8x512.size inb_S8x512_S8x512_0_0).toLoadRect k9)) (Scalar.ofBits .f32 0x42800000#32)) : BitVec 32) 0#32 := rfl
    rw [ld_all] at hr
    by_cases hv : risen (St.of arg6 arg7 arg9 arg8 k6 k7 k8 k9) = 1#1
    · have hv' : body_value.sl.v106 arg9 k9 = 1#1 := by rw [hr]; exact hv
      set_option sl_exec.stopBefore "k0_part63" in sl_exec
      generalize e6 : arg6.view.writes (Elt F) arg6.view.junk _ = l6
      generalize e7 : arg7.view.writes (Elt F) arg7.view.junk _ = l7
      generalize e8 : arg8.view.writes (Elt F) arg8.view.junk _ = l8
      have hS3 : St.of arg6 arg7 arg9 arg8 l6 l7 l8 k9 = freshUpTo (arg2.view.read (Elt F) f2) (arg3.view.read (Elt F) f3) (arg4.view.read (Elt F) f4) (again (St.of arg6 arg7 arg9 arg8 k6 k7 k8 k9)) (Words.tile i) := by
        rw [← e6, ← e7, ← e8, View.writes_append, View.writes_append, View.writes_append]
        refine (t3_loop _ _ _ _ _ _ _ _ _ _ _ _ _ _ _ _ _ _ _ _ _ _ _ _ _ _ _ _ _ _ (Nat.le_refl _)).trans ?_
        rw [Words.trips3]
        refine congrArg (fun x => freshUpTo (arg2.view.read (Elt F) f2) (arg3.view.read (Elt F) f3) (arg4.view.read (Elt F) f4) x (Words.tile i)) ?_
        unfold St.of again
        congr 1
        · exact read_all arg6 _ _ _
        · exact read_all arg7 _ _ _
        · exact read_all arg8 _ _ _
      clear e6 e7 e8
      set_option sl_exec.stopBefore "k0_part70" in sl_exec
      set_option sl_exec.maxSteps 23 in sl_exec
      generalize e6 : arg6.view.writes (Elt F) l6 _ = n6
      generalize e7 : arg7.view.writes (Elt F) l7 _ = n7
      generalize e8 : arg8.view.writes (Elt F) l8 _ = n8
      have hS4 : St.of arg6 arg7 arg9 arg8 n6 n7 n8 k9 = resweep i (arg2.view.read (Elt F) f2) (arg3.view.read (Elt F) f3) (arg4.view.read (Elt F) f4) (St.of arg6 arg7 arg9 arg8 k6 k7 k8 k9) := by
        rw [← e6, ← e7, ← e8]
        unfold resweep freshMasked
        rw [← hS3, ← scores_eq _ _ (k0_off97_inb i 0) (Words.off97 i), ← vRows_eq _ (k0_off99_inb i 0) (Words.off99 i)]
        exact of_fresh (fun h => masked (diagAgain i) (scores (arg2.view.read (Elt F) f2) (arg3.view.read (Elt F) f3) (k0_off97 i 0) (k0_off97_inb i 0) h)) (vRows (arg4.view.read (Elt F) f4) (k0_off99 i 0) (k0_off99_inb i 0)) (St.of arg6 arg7 arg9 arg8 l6 l7 l8 k9) rfl rfl rfl rfl
      clear e6 e7 e8 hS3
      sl_exec
      sl_step
      generalize e5 : arg5.view.writes (Elt F) f5 _ = k5
      have hO : arg5.view.read (Elt F) k5 = tileOut i (arg2.view.read (Elt F) f2) (arg3.view.read (Elt F) f3) (arg4.view.read (Elt F) f4) := by
        rw [← e5, read_all]
        unfold tileOut last
        rw [← hS2, if_pos hv, ← hS4]
        refine congrArg k0_pay4 ?_
        refine Eq.trans (b := arg8.view.readCov (rows64 fun h => quot (row64 (arg8.view.read (Elt F) n8) h) (row1 (arg7.view.read (Elt F) n7) h))
          (Rect.unit (s := S512x512) ![0, 0] S512x512.size inb_S512x512_S512x512_0_0).toLoadRect) rfl ?_
        unfold View.readCov
        rw [ld_all, read_rows64]
        rfl
      sl_close
    · have hv' : ¬ body_value.sl.v106 arg9 k9 = 1#1 := by rw [hr]; exact hv
      sl_exec
      sl_step
      generalize e5 : arg5.view.writes (Elt F) f5 _ = k5
      have hO : arg5.view.read (Elt F) k5 = tileOut i (arg2.view.read (Elt F) f2) (arg3.view.read (Elt F) f3) (arg4.view.read (Elt F) f4) := by
        rw [← e5, read_all]
        unfold tileOut last
        rw [← hS2, if_neg hv]
        refine congrArg k0_pay4 ?_
        refine Eq.trans (b := arg8.view.readCov (rows64 fun h => quot (row64 (arg8.view.read (Elt F) k8) h) (row1 (arg7.view.read (Elt F) k7) h))
          (Rect.unit (s := S512x512) ![0, 0] S512x512.size inb_S512x512_S512x512_0_0).toLoadRect) rfl ?_
        unfold View.readCov
        rw [ld_all, read_rows64]
        rfl
      sl_close

end Cert.Proof.Step

end
-- ==== Proof.ValueIdeal.lean ====
/- The attention kernel's run with its result: the body obligation with each point's tile, the run of @main from it, and
   the result array it leaves. -/
module

public import proofs.«01_k».proof.Proof.RunIdeal
public import Idealize.ShloMosaic.Lib.Pipeline.Value

@[expose] public section

set_option maxRecDepth 16384

noncomputable section

namespace Cert.Proof.ValueIdeal

open Cert.KernelIdeal Cert.KernelIdeal.Gen Cert.Proof.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body run on memrefs held through their values: the three inputs' values survive, the result's
    is the tile's result, the scratch's are some values. -/
theorem body_owns (c : Dev nD) (i : grid0.Coords) (arg2 : Memref sig .tc .vmem S1x1024x512 .bf16) (harg2 : arg2.IsWhole) (arg3 : Memref sig .tc .vmem S8192x1024 .bf16) (harg3 : arg3.IsWhole) (arg4 : Memref sig .tc .vmem S16x640x512 .bf16) (harg4 : arg4.IsWhole) (arg5 : Memref sig .tc .vmem S512x512 .bf16) (harg5 : arg5.IsWhole) (x2 : Vec F S1x1024x512 .bf16) (x3 : Vec F S8192x1024 .bf16) (x4 : Vec F S16x640x512 .bf16) :
    iprop(Pipeline.ΦA (U := UR sig nD τ) (Val := Elt F) spec0 c ∗ owns (c : Thread nD τ) arg2 fullShare x2 ∗ owns (c : Thread nD τ) arg3 fullShare x3 ∗ owns (c : Thread nD τ) arg4 fullShare x4 ∗ (∃ d, owns (c : Thread nD τ) arg5 fullShare d))
    ⊢ wp frame (wpE (defs₀ (F := F)) Variants.none (c : Thread nD τ) none) Set.univ (cc0_mla_attn i arg2 harg2 arg3 harg3 arg4 harg4 arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _))
      (fun _ => iprop(Pipeline.ΦA (U := UR sig nD τ) (Val := Elt F) spec0 c ∗ owns (c : Thread nD τ) arg2 fullShare x2 ∗ owns (c : Thread nD τ) arg3 fullShare x3 ∗ owns (c : Thread nD τ) arg4 fullShare x4 ∗ owns (c : Thread nD τ) arg5 fullShare (tileOut i x2 x3 x4))) := by
  unfold Pipeline.ΦA
  rw [scopedRest0_eq]
  dsimp only [bigSepL]
  unfold owns
  iintro ⟨⟨⟨⟨%f6, H6⟩, ⟨%f7, H7⟩, ⟨%f8, H8⟩, ⟨%f9, H9⟩⟩, Hr⟩, ⟨%f2, %h2, H2⟩, ⟨%f3, %h3, H3⟩, ⟨%f4, %h4, H4⟩, ⟨%d5, %f5, -, H5⟩⟩
  iapply (wp_wand_r frame (wpE (defs₀ (F := F)) Variants.none (c : Thread nD τ) none) Set.univ (Q := fun _ => iprop(pt c arg2 f2 ∗ pt c arg3 f3 ∗ pt c arg4 f4 ∗ (∃ f, pt c arg5 f ∗ ⌜arg5.view.read (Elt F) f = tileOut i (arg2.view.read (Elt F) f2) (arg3.view.read (Elt F) f3) (arg4.view.read (Elt F) f4)⌝) ∗ (∃ f, pt c (Memref.whole cc0_scratch0) f) ∗ (∃ f, pt c (Memref.whole cc0_scratch1) f) ∗ (∃ f, pt c (Memref.whole cc0_scratch2) f) ∗ (∃ f, pt c (Memref.whole cc0_scratch3) f))))
  isplitr [Hr]
  · iapply (body_value c i arg2 harg2 arg3 harg3 arg4 harg4 arg5 harg5 _ (Memref.isWhole_whole _) _ (Memref.isWhole_whole _) _ (Memref.isWhole_whole _) _ (Memref.isWhole_whole _) f2 f3 f4 f5 f6 f7 f8 f9)
    simp only [pt, Memref.view_whole, View.set_whole]
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %a ⟨H2, H3, H4, ⟨%g5, H5, %h5⟩, ⟨%g6, H6⟩, ⟨%g7, H7⟩, ⟨%g8, H8⟩, ⟨%g9, H9⟩⟩
    simp only [pt, Memref.view_whole, View.set_whole]
    isplitl [H6 H7 H8 H9 Hr]
    · isplitr [Hr]
      · isplitl [H6]; · iexists _; iexact H6
        isplitl [H7]; · iexists _; iexact H7
        isplitl [H8]; · iexists _; iexact H8
        iexists _; iexact H9
      · iexact Hr
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    iexists _; isplitr; swap; · iexact H5
    ipureintro; rw [h5, h2, h3, h4]

/-! ## The proof data -/

/-- The arrays as the region finds them; after the body each input's buffer at its block, the result's at the tile's result; the
    scratch and the generator register at anything; nothing owed; full shares. -/
def dats [∀ e, Nonempty (Elt F e)] (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOut (grid0.coords t) (iblk m c 0 t) (iblk m c 1 t) (iblk m c 2 t)
  Φ _ := Pipeline.ΦA spec0 c
  q _ := fullShare
  owed _ := 0

variable [∀ e, Nonempty (Elt F e)]

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = tileOut (grid0.coords t) (iblk m c 0 t) (iblk m c 1 t) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The library's body obligation at each point the kernel on that point's staging
    memrefs, the inputs at their blocks. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3]
  iintro ⟨HΦ, Ho, ⟨%d0, H0⟩, ⟨%d1, H1⟩, ⟨%d2, H2⟩, ⟨%d3, H3⟩⟩
  iapply (wp_wand_r frame (wpE (defs₀ (F := F)) Variants.none (c : Thread nD τ) none) Set.univ (Q := fun _ => iprop(Pipeline.ΦA (U := UR sig nD τ) (Val := Elt F) spec0 c ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (tileOut (grid0.coords t) (iblk m c 0 t) (iblk m c 1 t) (iblk m c 2 t)))))
  isplitr [Ho]
  · iapply (body_owns c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) (iblk m c 0 t) (iblk m c 1 t) (iblk m c 2 t))
    isplitl [HΦ]; · iexact HΦ
    isplitl [H0]; · iexact H0
    isplitl [H1]; · iexact H1
    isplitl [H2]; · iexact H2
    iexists _; iexact H3
  · iintro %a ⟨HΦ, H0, H1, H2, H3⟩
    isplitl [HΦ]; · iexact HΦ
    isplitl [Ho]; · iexact Ho
    isplitl [H0]; · iexact H0
    isplitl [H1]; · iexact H1
    isplitl [H2]; · iexact H2
    iexact H3

/-! ## The run -/

set_option backward.isDefEq.respectTransparency.types false in
/-- From any memory with zero counters every weakly fair execution of @main terminates, every array of the region at
    what its points' write-backs leave. -/
theorem run_main : θ_run defs (onTc (τ := τ) (main (F := F))) (s₀ m ρ) (Pipeline.FramePost cfgs (dats m) 0 (V m)) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-! ## The blocks' places -/

theorem coord_eq : ∀ t : Fin cfg0.N, (grid0.coords t 1).val = t.val % 16 := by decide +kernel
theorem index0 : ∀ t : Fin cfg0.N, win0_0.index t 0 = t.val ∧ win0_0.index t 1 = 0 ∧ win0_0.index t 2 = 0 := by decide +kernel
theorem index1 : ∀ t : Fin cfg0.N, win0_1.index t 0 = t.val / 16 ∧ win0_1.index t 1 = 0 := by decide +kernel
theorem index2 : ∀ t : Fin cfg0.N, win0_2.index t 0 = t.val / 16 ∧ win0_2.index t 1 = 0 ∧ win0_2.index t 2 = 0 := by decide +kernel
theorem index3 : ∀ t : Fin cfg0.N, win0_3.index t 0 = t.val ∧ win0_3.index t 1 = 0 := by decide +kernel

theorem lt32 (t : Fin cfg0.N) : t.val < 32 := t.isLt

/-- A tile's queries are that tile of the queries' array. -/
theorem iblk0_apply (c : Dev nD) (t : Fin cfg0.N) (a : Fin 1024) (b : Fin 512) :
    iblk m c 0 t (ix3 (0 : Fin 1) a b) = m ((c : Thread nD τ).loc main_arg0) (ix3 (⟨t.val, by have := lt32 t; omega⟩ : Fin 34) a b) := by
  refine congrArg (m ((c : Thread nD τ).loc main_arg0)) (funext fun x => Fin.ext ?_)
  obtain ⟨e0, e1, e2⟩ := index0 t
  match x with
  | ⟨0, _⟩ => show win0_0.index t 0 * 1 + 1 * 0 = t.val; rw [e0]; omega
  | ⟨1, _⟩ => show win0_0.index t 1 * 1024 + 1 * a.val = a.val; rw [e1]; omega
  | ⟨2, _⟩ => show win0_0.index t 2 * 512 + 1 * b.val = b.val; rw [e2]; omega

/-- A tile's keys are the rows of its sequence in the keys' array. -/
theorem iblk1_apply (c : Dev nD) (t : Fin cfg0.N) (r : Fin 8192) (a : Fin 1024) :
    iblk m c 1 t (ix2 r a) = m ((c : Thread nD τ).loc main_arg1) (ix2 (⟨8192 * (t.val / 16) + r.val, by have := lt32 t; omega⟩ : Fin 16384) a) := by
  refine congrArg (m ((c : Thread nD τ).loc main_arg1)) (funext fun x => Fin.ext ?_)
  obtain ⟨e0, e1⟩ := index1 t
  match x with
  | ⟨0, _⟩ => show win0_1.index t 0 * 8192 + 1 * r.val = 8192 * (t.val / 16) + r.val; rw [e0]; omega
  | ⟨1, _⟩ => show win0_1.index t 1 * 1024 + 1 * a.val = a.val; rw [e1]; omega

/-- A tile's values are the blocks of its sequence in the values' array. -/
theorem iblk2_apply (c : Dev nD) (t : Fin cfg0.N) (j : Fin 16) (a : Fin 640) (b : Fin 512) :
    iblk m c 2 t (ix3 j a b) = m ((c : Thread nD τ).loc main_arg2) (ix3 (⟨16 * (t.val / 16) + j.val, by have := lt32 t; omega⟩ : Fin 32) a b) := by
  refine congrArg (m ((c : Thread nD τ).loc main_arg2)) (funext fun x => Fin.ext ?_)
  obtain ⟨e0, e1, e2⟩ := index2 t
  match x with
  | ⟨0, _⟩ => show win0_2.index t 0 * 16 + 1 * j.val = 16 * (t.val / 16) + j.val; rw [e0]; omega
  | ⟨1, _⟩ => show win0_2.index t 1 * 640 + 1 * a.val = a.val; rw [e1]; omega
  | ⟨2, _⟩ => show win0_2.index t 2 * 512 + 1 * b.val = b.val; rw [e2]; omega

/-! ## The result array -/

/-- The point whose block holds a row of the result. -/
def point (i : S16384x512.Idx) : Fin cfg0.N := ⟨(i 0).val / 512, by have h : (i 0).val < 16384 := (i 0).isLt; show _ < 32; omega⟩

/-- The result array: each row that of its point's tile. -/
def val (c : Dev nD) : Buf (Elt F) ((c : Thread nD τ).loc main_v0) := fun (i : S16384x512.Idx) =>
  tileOut (grid0.coords (point i)) (iblk m c 0 (point i)) (iblk m c 1 (point i)) (iblk m c 2 (point i))
    (ix2 (⟨(i 0).val % 512, Nat.mod_lt _ (by decide)⟩ : Fin 512) (i 1))

/-- What point `t` writes back is block `t` of the result array. -/
theorem flushed_eq (c : Dev nD) (t : Fin cfg0.N) : (dats m 0 c).flushed 3 t = (win0_3.blk t).view.read (Elt F) (val m c) := by
  show (cfg0.win 3).cut (grid0.coords t) ((dats m 0 c).after 3 t) = _
  rw [after0_3]
  obtain ⟨e0, e1⟩ := index3 t
  funext y
  obtain ⟨r, q, rfl⟩ : ∃ (r : Fin 512) (q : Fin 512), y = ix2 r q := ⟨y 0, y 1, eq_ix2 y⟩
  have hr := r.isLt
  have hq := q.isLt
  have ht := lt32 t
  have key : ∀ i : S16384x512.Idx, (i 0).val = 512 * t.val + r.val → (i 1).val = q.val →
      tileOut (grid0.coords t) (iblk m c 0 t) (iblk m c 1 t) (iblk m c 2 t) (ix2 r q) = val m c i := by
    intro i h0 h1
    have hp : point i = t := Fin.ext (by show (i 0).val / 512 = t.val; omega)
    unfold val
    rw [hp]
    exact congrArg _ (congrArg₂ ix2 (Fin.ext (by show r.val = (i 0).val % 512; omega)) (Fin.ext h1.symm))
  refine key _ ?_ ?_
  · show win0_3.index t 0 * 512 + 1 * r.val = 512 * t.val + r.val
    rw [e0]; omega
  · show win0_3.index t 1 * 512 + 1 * q.val = q.val
    rw [e1]; omega

/-- An index of the result array is in point `t`'s block when its row is one of the tile's. -/
theorem mem_blk (t : Fin cfg0.N) (i : S16384x512.Idx) (h0 : 512 * t.val ≤ (i 0).val ∧ (i 0).val < 512 * t.val + 512) :
    i ∈ ((cfg0.win 3).blk t).view.set := by
  show i ∈ ((View.whole main_v0).slice (win0_3.rect t)).set
  rw [View.set_slice_whole, Rect.mem_set_unit]
  obtain ⟨e0, e1⟩ := index3 t
  have h1 : (i 1).val < 512 := (i 1).isLt
  intro a
  match a with
  | ⟨0, _⟩ => show win0_3.index t 0 * 512 ≤ (i 0).val ∧ (i 0).val < win0_3.index t 0 * 512 + 512
              rw [e0]; omega
  | ⟨1, _⟩ => show win0_3.index t 1 * 512 ≤ (i 1).val ∧ (i 1).val < win0_3.index t 1 * 512 + 512
              rw [e1]; omega

/-- The points' blocks fill the result array. -/
theorem cover (i : S16384x512.Idx) : ∃ t : Fin cfg0.N, (cfg0.win 3).flush t = true ∧ i ∈ ((cfg0.win 3).blk t).view.set :=
  ⟨point i, flush0_3 _, mem_blk _ i (by show 512 * ((i 0).val / 512) ≤ (i 0).val ∧ (i 0).val < 512 * ((i 0).val / 512) + 512; omega)⟩

theorem final (c : Dev nD) : (dats m 0 c).arrAt 3 cfg0.N = val m c :=
  (dats m 0 c).arrAt_eq_of_cover 3 (val m c) (fun t _ => flushed_eq m c t) cover

/-- The run, read: the result array at its tiles, the arguments unchanged. -/
theorem run : θ_run defs (onTc (τ := τ) (main (F := F))) ⟨m, fun _ => 0, ρ⟩ fun r => ∀ c : Dev nD,
      r.2.mem ((c.tc : Thread nD τ).loc main_v0) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c), ((h c).1 0).trans ((dats m 0 c).arrAt_in 0 rfl _),
    ((h c).1 1).trans ((dats m 0 c).arrAt_in 1 rfl _), ((h c).1 2).trans ((dats m 0 c).arrAt_in 2 rfl _)⟩) (run_main m ρ)

end Cert.Proof.ValueIdeal

end
-- ==== Proof.Soft.lean ====
/- Sums of weighted values kept relative to a running offset, over the extended reals. -/
module

public import Idealize.ShloMosaic.PureOps.Ideal.Laws

@[expose] public section

noncomputable section

namespace Cert.Proof.Soft

open Idealize.ShloMosaic
open Finset (range)

/-- The power of two that a running offset of `M` divides by. -/
def pw (M : ℝ) : EReal := ((Real.rpow 2 (-M) : ℝ) : EReal)

theorem pw_nonneg (M : ℝ) : 0 ≤ pw M := EReal.coe_nonneg.mpr (Real.rpow_nonneg (by norm_num) _)
theorem pw_ne_top (M : ℝ) : pw M ≠ ⊤ := EReal.coe_ne_top _

theorem pw_add (M : ℝ) (x y : EReal) : pw M * (x + y) = pw M * x + pw M * y :=
  EReal.left_distrib_of_nonneg_of_ne_top (pw_nonneg M) (pw_ne_top M) x y

/-- A nonnegative real factor goes through a sum. -/
theorem mul_sum_real {ι : Type} (s : Finset ι) (f : ι → EReal) {q : EReal} (h0 : 0 ≤ q) (ht : q ≠ ⊤) : ∑ i ∈ s, q * f i = q * ∑ i ∈ s, f i := by
  classical
  induction s using Finset.induction_on with
  | empty => simp
  | insert a s ha ih => rw [Finset.sum_insert ha, Finset.sum_insert ha, ih, EReal.left_distrib_of_nonneg_of_ne_top h0 ht]

/-- A weight relative to the offset `M` is the weight divided. -/
theorem exp2_sub (s : EReal) (hs : s ≠ ⊤) (M : ℝ) : Ideal.exp2 (s - (M : EReal)) = pw M * Ideal.exp2 s := by
  induction s with
  | bot => rw [EReal.bot_sub, Ideal.exp2_bot, mul_zero]
  | top => exact absurd rfl hs
  | coe r =>
    rw [← EReal.coe_sub, Ideal.exp2_coe, Ideal.exp2_coe, pw, ← EReal.coe_mul]
    refine congrArg _ ?_
    show (2 : ℝ) ^ (r - M) = 2 ^ (-M) * 2 ^ r
    rw [← Real.rpow_add (by norm_num)]
    congr 1; ring

/-- Moving from the offset `M` to the offset `M'`. -/
theorem carry (M M' : ℝ) (x : EReal) : Ideal.exp2 ((M : EReal) - (M' : EReal)) * (pw M * x) = pw M' * x := by
  rw [← mul_assoc, ← EReal.coe_sub, Ideal.exp2_coe, pw, pw, ← EReal.coe_mul]
  refine congrArg (fun y : ℝ => (y : EReal) * x) ?_
  show (2 : ℝ) ^ (M - M') * 2 ^ (-M) = 2 ^ (-M')
  rw [← Real.rpow_add (by norm_num)]
  congr 1; ring

/-- A block's weighted values relative to the offset `M`. -/
theorem block {ι : Type} (t : Finset ι) (v s : ι → EReal) (hs : ∀ i ∈ t, s i ≠ ⊤) (M : ℝ) :
    ∑ i ∈ t, v i * Ideal.exp2 (s i - (M : EReal)) = pw M * ∑ i ∈ t, v i * Ideal.exp2 (s i) := by
  rw [← mul_sum_real t _ (pw_nonneg M) (pw_ne_top M)]
  refine Finset.sum_congr rfl fun i hi => ?_
  rw [exp2_sub _ (hs i hi), mul_left_comm]

/-- A block against the new offset. -/
theorem fresh_step {ι : Type} (t : Finset ι) (v s : ι → EReal) (hs : ∀ i ∈ t, s i ≠ ⊤) (M M' : ℝ) (x : EReal) :
    Ideal.exp2 ((M : EReal) - (M' : EReal)) * (pw M * x) + ∑ i ∈ t, v i * Ideal.exp2 (s i - (M' : EReal)) = pw M' * (x + ∑ i ∈ t, v i * Ideal.exp2 (s i)) := by
  rw [carry, block t v s hs, pw_add]

/-- A block against the old offset. -/
theorem stale_step {ι : Type} (t : Finset ι) (v s : ι → EReal) (hs : ∀ i ∈ t, s i ≠ ⊤) (M M' : ℝ) (x : EReal) :
    Ideal.exp2 ((M : EReal) - (M' : EReal)) * (pw M * x + ∑ i ∈ t, v i * Ideal.exp2 (s i - (M : EReal))) = pw M' * (x + ∑ i ∈ t, v i * Ideal.exp2 (s i)) := by
  rw [block t v s hs, ← pw_add, carry]

/-- The first block. -/
theorem first_step {ι : Type} (t : Finset ι) (v s : ι → EReal) (hs : ∀ i ∈ t, s i ≠ ⊤) (M' : ℝ) :
    Ideal.exp2 ((⊥ : EReal) - (M' : EReal)) * 0 + ∑ i ∈ t, v i * Ideal.exp2 (s i - (M' : EReal)) = pw M' * ∑ i ∈ t, v i * Ideal.exp2 (s i) := by
  rw [mul_zero, zero_add, block t v s hs]

/-- A quotient keeps no trace of a common positive factor, the divisor being a positive real. -/
theorem div_scaled {q L : ℝ} (hq : 0 < q) (hL : 0 < L) (x : EReal) : Ideal.div ((q : EReal) * x) ((q : EReal) * (L : EReal)) = x * ((L⁻¹ : ℝ) : EReal) := by
  have h : (q : EReal) * (L : EReal) ≠ 0 := by
    rw [← EReal.coe_mul]
    exact fun e => (mul_pos hq hL).ne' (EReal.coe_eq_zero.mp e)
  rw [Ideal.div, if_neg h, ← EReal.coe_mul, ← EReal.coe_inv, mul_comm (q : EReal) x, mul_assoc, ← EReal.coe_mul]
  refine congrArg (fun y : ℝ => x * (y : EReal)) ?_
  rw [mul_inv, ← mul_assoc, mul_inv_cancel₀ hq.ne', one_mul]

/-- A finite sum of weights of scores below `⊤`, one of them above `⊥`, is a positive real. -/
theorem sum_weights {ι : Type} (t : Finset ι) (s : ι → EReal) (hs : ∀ i ∈ t, s i ≠ ⊤) {j : ι} (hj : j ∈ t) (hb : s j ≠ ⊥) :
    ∃ L : ℝ, 0 < L ∧ ∑ i ∈ t, Ideal.exp2 (s i) = (L : EReal) := by
  have hw : ∀ i ∈ t, ∃ r : ℝ, 0 ≤ r ∧ Ideal.exp2 (s i) = (r : EReal) := by
    intro i hi
    generalize e : s i = x
    induction x with
    | bot => exact ⟨0, le_refl 0, rfl⟩
    | top => exact absurd e (hs i hi)
    | coe r => exact ⟨_, Real.rpow_nonneg (by norm_num : (0 : ℝ) ≤ 2) r, rfl⟩
  choose! w hw0 hw1 using hw
  refine ⟨∑ i ∈ t, w i, ?_, ?_⟩
  · refine Finset.sum_pos' hw0 ⟨j, hj, ?_⟩
    have h1 := hw1 j hj
    generalize s j = x at *
    induction x with
    | bot => exact absurd rfl hb
    | top => exact absurd (h1.symm.trans rfl) (EReal.coe_ne_top _)
    | coe r =>
      rw [Ideal.exp2_coe] at h1
      rw [← EReal.coe_injective h1]
      exact Real.rpow_pos_of_pos (by norm_num) r
  · classical
    have : ∀ u : Finset ι, ((∑ i ∈ u, w i : ℝ) : EReal) = ∑ i ∈ u, (w i : EReal) := by
      intro u
      induction u using Finset.induction_on with
      | empty => simp
      | insert a u ha ih => rw [Finset.sum_insert ha, Finset.sum_insert ha, EReal.coe_add, ih]
    rw [this]
    exact Finset.sum_congr rfl hw1

/-! ### Largest values -/

/-- A running maximum over finitely many values below `⊤` is below `⊤`. -/
theorem fold_max_ne_top {ι : Type} (t : Finset ι) (s : ι → EReal) (hs : ∀ i ∈ t, s i ≠ ⊤) : t.fold max ⊥ s ≠ ⊤ :=
  ((Finset.fold_max_lt ⊤).mpr ⟨bot_lt_top, fun i hi => lt_top_iff_ne_top.mpr (hs i hi)⟩).ne

theorem fold_max_ne_bot {ι : Type} (t : Finset ι) (s : ι → EReal) {j : ι} (hj : j ∈ t) (hb : s j ≠ ⊥) : t.fold max ⊥ s ≠ ⊥ :=
  ((Finset.lt_fold_max ⊥).mpr (Or.inr ⟨j, hj, bot_lt_iff_ne_bot.mpr hb⟩)).ne'

/-- A value off both ends is a real. -/
theorem real_of {x : EReal} (hb : x ≠ ⊥) (ht : x ≠ ⊤) : ∃ r : ℝ, x = (r : EReal) := ⟨x.toReal, (EReal.coe_toReal ht hb).symm⟩

theorem max_real (M : ℝ) {c : EReal} (hc : c ≠ ⊤) : ∃ M' : ℝ, max (M : EReal) c = (M' : EReal) :=
  real_of (fun e => EReal.coe_ne_bot M (le_bot_iff.mp (e ▸ le_max_left _ _)))
    (fun e => (max_lt (EReal.coe_lt_top M) (lt_top_iff_ne_top.mpr hc)).ne e)

/-! ### The natural exponential -/

/-- `e` to a score times `log 2`, relative to `μ`, is a positive multiple of the weight. -/
theorem exp_log2 (s : EReal) (hs : s ≠ ⊤) (μ : ℝ) : Ideal.exp (s * ((Real.log 2 : ℝ) : EReal) - (μ : EReal)) = ((Real.exp (-μ) : ℝ) : EReal) * Ideal.exp2 s := by
  induction s with
  | bot => rw [EReal.bot_mul_coe_of_pos (Real.log_pos (by norm_num)), EReal.bot_sub, Ideal.exp_bot, Ideal.exp2_bot, mul_zero]
  | top => exact absurd rfl hs
  | coe r =>
    rw [← EReal.coe_mul, ← EReal.coe_sub, Ideal.exp_coe, Ideal.exp2_coe, ← EReal.coe_mul]
    refine congrArg _ ?_
    show _ = Real.exp (-μ) * (2 : ℝ) ^ r
    rw [Real.rpow_def_of_pos (by norm_num), ← Real.exp_add]
    congr 1; ring

theorem mul_log2_ne_top {s : EReal} (hs : s ≠ ⊤) : s * ((Real.log 2 : ℝ) : EReal) ≠ ⊤ := by
  induction s with
  | bot => rw [EReal.bot_mul_coe_of_pos (Real.log_pos (by norm_num))]; exact bot_ne_top
  | top => exact absurd rfl hs
  | coe r => rw [← EReal.coe_mul]; exact EReal.coe_ne_top _

/-! ### The attention of one query -/

/-- The weighted mean of the values `v` under the weights of the scores `s`, over the keys of `t`. -/
def mean {ι : Type} (t : Finset ι) (v s : ι → EReal) : EReal :=
  (∑ i ∈ t, v i * Ideal.exp2 (s i)) * (((∑ i ∈ t, Ideal.exp2 (s i)).toReal⁻¹ : ℝ) : EReal)

/-- The quotient of the running sums is the mean, whatever the offset. -/
theorem div_running {ι : Type} (t : Finset ι) (v s : ι → EReal) (hs : ∀ i ∈ t, s i ≠ ⊤) {j : ι} (hj : j ∈ t) (hb : s j ≠ ⊥) (M : ℝ) :
    Ideal.div (pw M * ∑ i ∈ t, v i * Ideal.exp2 (s i)) (pw M * ∑ i ∈ t, Ideal.exp2 (s i)) = mean t v s := by
  obtain ⟨L, hL, e⟩ := sum_weights t s hs hj hb
  rw [mean, e, EReal.toReal_coe]
  exact div_scaled (Real.rpow_pos_of_pos (by norm_num) _) hL _

/-- The softmax of the scores times `log 2`, relative to any real `μ`, weighing the values, is the mean. -/
theorem softmax_mean {ι : Type} (t : Finset ι) (v s : ι → EReal) (hs : ∀ i ∈ t, s i ≠ ⊤) {j : ι} (hj : j ∈ t) (hb : s j ≠ ⊥) (μ : ℝ) :
    ∑ i ∈ t, v i * Ideal.div (Ideal.exp (s i * ((Real.log 2 : ℝ) : EReal) - (μ : EReal))) (∑ k ∈ t, Ideal.exp (s k * ((Real.log 2 : ℝ) : EReal) - (μ : EReal))) = mean t v s := by
  obtain ⟨L, hL, e⟩ := sum_weights t s hs hj hb
  have hD : ∑ k ∈ t, Ideal.exp (s k * ((Real.log 2 : ℝ) : EReal) - (μ : EReal)) = ((Real.exp (-μ) : ℝ) : EReal) * (L : EReal) := by
    rw [← e, ← mul_sum_real t _ (EReal.coe_nonneg.mpr (Real.exp_pos _).le) (EReal.coe_ne_top _)]
    exact Finset.sum_congr rfl fun k hk => exp_log2 _ (hs k hk) μ
  rw [hD, mean, e, EReal.toReal_coe, mul_comm (∑ i ∈ t, v i * Ideal.exp2 (s i)), ← mul_sum_real t _ (EReal.coe_nonneg.mpr (inv_nonneg.mpr hL.le)) (EReal.coe_ne_top _)]
  refine Finset.sum_congr rfl fun i hi => ?_
  rw [exp_log2 _ (hs i hi), div_scaled (Real.exp_pos _) hL, mul_comm ((L⁻¹ : ℝ) : EReal), mul_assoc]

/-- Keys of no weight may be left out. -/
theorem mean_subset {ι : Type} {t u : Finset ι} (h : t ⊆ u) (v s : ι → EReal) (hs : ∀ i ∈ u, i ∉ t → s i = ⊥) : mean t v s = mean u v s := by
  have h1 : ∑ i ∈ t, Ideal.exp2 (s i) = ∑ i ∈ u, Ideal.exp2 (s i) :=
    Finset.sum_subset h fun i hi hn => by rw [hs i hi hn, Ideal.exp2_bot]
  have h2 : ∑ i ∈ t, v i * Ideal.exp2 (s i) = ∑ i ∈ u, v i * Ideal.exp2 (s i) :=
    Finset.sum_subset h fun i hi hn => by rw [hs i hi hn, Ideal.exp2_bot, mul_zero]
  rw [mean, mean, h1, h2]

end Cert.Proof.Soft

end
-- ==== Proof.StepAlg.lean ====
/- One block of the attention over the extended reals, entry by entry. -/
module

public import proofs.«01_k».proof.Proof.SweepIdeal
public import proofs.«01_k».proof.Proof.Soft
public import Idealize.ShloMosaic.Lib.MatmulPlain
public import Idealize.ShloMosaic.Lib.Pipeline.Value

@[expose] public section

set_option maxRecDepth 16384

noncomputable section

namespace Cert.Proof.Alg

open Cert.KernelIdeal Cert.KernelIdeal.Gen Cert.Proof.Step Cert.Proof.Soft
open Idealize.ShloMosaic Idealize.ShloMosaic.TcCoe

/-! ### Entries of the pieces -/

theorem dot_score : dot_S512x128_S128x512_S512x512_1_0_0_1_n_n = DotDims.plain 512 128 512 := rfl
theorem dot_pv : dot_S80x512_S512x512_S80x512_1_0_0_1_n_n = DotDims.plain 80 512 512 := rfl

theorem score_apply (k : Vec Ideal S512x128 .bf16) (q : Vec Ideal S1x128x512 .bf16) (r c : Fin 512) :
    score k q (ix2 r c) = ∑ x : Fin 128, k (ix2 r x) * q (ix3 (0 : Fin 1) x c) := by
  unfold score
  rw [dot_score]
  refine (Ideal.matmul_plain_apply none k (shapeCast S128x512 q shapeCasts_S1x128x512_S128x512) (constant S512x512 .f32 0x00000000#32) r c).trans ?_
  rw [show constant (F := Ideal) S512x512 .f32 0x00000000#32 (ValueIdx.ix2 r c) = 0 from Ideal.ofBits_zero_f32, zero_add]
  change ∑ x : Fin 128, k (ix2 r x) * shapeCast S128x512 q shapeCasts_S1x128x512_S128x512 (ix2 x c) = _
  refine Finset.sum_congr rfl fun x _ => congrArg (k (ix2 r x) * ·) ?_
  refine (shapeCast_dropUnit_apply ![128, 512] q shapeCasts_S1x128x512_S128x512 (ix2 x c)).trans (congrArg q (funext fun a => ?_))
  match a with
  | ⟨0, _⟩ => rfl
  | ⟨1, _⟩ => rfl
  | ⟨2, _⟩ => rfl

theorem mask_bot : (Named.named (F := Ideal) κ "mask" (φ := .f32) 0xF149F2CA#32 : EReal) = ⊥ := rfl

theorem masked_apply (w : IVec S512x512 1) (s : FVec Ideal S512x512 .f32) (y : S512x512.Idx) : masked w s y = if w y = 1#1 then s y else ⊥ := by
  show (if w y = 1#1 then s y else _) = _
  rfl

theorem neg_inf : Ideal.ofBits .f32 0xFF800000#32 = ⊥ := by simp [Ideal.ofBits, Ideal.ieee]

theorem colMax_apply (s : FVec Ideal S512x512 .f32) (c : Fin 512) :
    colMax s (ix2 (0 : Fin 1) c) = Finset.univ.fold max ⊥ fun r : Fin 512 => s (ix2 r c) := by
  unfold colMax
  refine (shapeCast_apply _ shapeCasts_S512_S1x512 (ix2 (0 : Fin 1) c) (ix1 c) ?_).trans ?_
  · rw [Shape.rowMajor_val_one, Shape.rowMajor_val_two]
    show c.val = 0 * 512 + c.val
    omega
  · refine (Ideal.multiReduction_maximumf_single s 0xFF800000#32 reduces_S512x512_S512 (.inl rfl) rfl (ix1 c)).trans ?_
    rw [show FloatOps.ofBits (F := Ideal) .f32 0xFF800000#32 = (⊥ : EReal) from neg_inf]
    refine congrArg (fun f => Finset.fold max (⊥ : EReal) f Finset.univ) (funext fun r => congrArg s (funext fun a => ?_))
    match a with
    | ⟨0, _⟩ => rfl
    | ⟨1, _⟩ => rfl

theorem pv_apply (s : FVec Ideal S512x512 .f32) (m : FVec Ideal S1x512 .f32) (v : Vec Ideal S1x80x512 .bf16) (e : Fin 80) (c : Fin 512) :
    pv s m v (ix2 e c) = ∑ r : Fin 512, v (ix3 (0 : Fin 1) e r) * Ideal.exp2 (s (ix2 r c) - m (ix2 (0 : Fin 1) c)) := by
  unfold pv
  rw [dot_pv]
  refine (Ideal.matmul_plain_apply none (shapeCast S80x512 v shapeCasts_S1x80x512_S80x512) _ (constant S80x512 .f32 0x00000000#32) e c).trans ?_
  rw [show constant (F := Ideal) S80x512 .f32 0x00000000#32 (ValueIdx.ix2 e c) = 0 from Ideal.ofBits_zero_f32, zero_add]
  change ∑ r : Fin 512, shapeCast S80x512 v shapeCasts_S1x80x512_S80x512 (ix2 e r) *
    truncf .bf16 (exp2 (subf s (broadcastTo S512x512 m broadcasts_S1x512_S512x512))) bitsLt_bf16_f32 (ix2 r c) = _
  refine Finset.sum_congr rfl fun r _ => congrArg₂ (· * ·) ?_ ?_
  · refine (shapeCast_dropUnit_apply ![80, 512] v shapeCasts_S1x80x512_S80x512 (ix2 e r)).trans (congrArg v (funext fun a => ?_))
    match a with
    | ⟨0, _⟩ => rfl
    | ⟨1, _⟩ => rfl
    | ⟨2, _⟩ => rfl
  · show Ideal.exp2 (s (ix2 r c) - broadcastTo S512x512 m broadcasts_S1x512_S512x512 (ix2 r c)) = _
    rw [broadcastTo_apply m broadcasts_S1x512_S512x512 (ix2 r c) (ix2 (0 : Fin 1) c) fun a => by
      match a with
      | ⟨0, _⟩ => rfl
      | ⟨1, _⟩ => rfl]

theorem row1_apply (m : Vec Ideal S8x512 .f32) (h : Fin 8) (c : Fin 512) : row1 m h (ix2 (0 : Fin 1) c) = m (ix2 h c) := by
  refine congrArg m (funext fun a => Fin.ext ?_)
  match a with
  | ⟨0, _⟩ => exact Nat.add_zero _
  | ⟨1, _⟩ => show 0 + 1 * c.val = c.val; omega

/-- Row `64 h + d` of a 512-row array. -/
def at64 (h : Fin 8) (d : Fin 64) : Fin 512 := ⟨64 * h.val + d.val, by omega⟩

theorem row64_apply (a : Vec Ideal S512x512 .f32) (h : Fin 8) (d : Fin 64) (c : Fin 512) : row64 a h (ix2 d c) = a (ix2 (at64 h d) c) := by
  refine congrArg a (funext fun x => Fin.ext ?_)
  match x with
  | ⟨0, _⟩ => show 64 * h.val + 1 * d.val = 64 * h.val + d.val; omega
  | ⟨1, _⟩ => show 0 + 1 * c.val = c.val; omega

theorem put64_apply (p : Fin 8 → FVec Ideal S64x512 .f32) (h : Fin 8) (d : Fin 64) (c : Fin 512) : put64 p (ix2 (at64 h d) c) = p h (ix2 d c) := by
  exact (row64_apply (put64 p) h d c).symm.trans (congrFun (row64_put64 p h) (ix2 d c))

theorem newMax_apply (s : FVec Ideal S512x512 .f32) (m : FVec Ideal S1x512 .f32) (c : Fin 512) :
    newMax s m (ix2 (0 : Fin 1) c) = max (m (ix2 (0 : Fin 1) c)) (Finset.univ.fold max ⊥ fun r : Fin 512 => s (ix2 r c)) := by
  rw [← colMax_apply]; rfl

theorem alpha_apply (s : FVec Ideal S512x512 .f32) (m : FVec Ideal S1x512 .f32) (c : Fin 512) :
    alpha s m (ix2 (0 : Fin 1) c) = Ideal.exp2 (m (ix2 (0 : Fin 1) c) - newMax s m (ix2 (0 : Fin 1) c)) := rfl

theorem ones_apply (x : FVec Ideal S80x512 .f32) (c : Fin 512) :
    extractStridedSlice S1x512 ![64, 0] x slices_S80x512_o64_0_S1x512 (ix2 (0 : Fin 1) c) = x (ix2 (64 : Fin 80) c) :=
  extractStridedSlice_apply _ x slices_S80x512_o64_0_S1x512 _ _ fun a => by
    match a with
    | ⟨0, _⟩ => rfl
    | ⟨1, _⟩ => show c.val = 0 + c.val; omega

/-- Coordinate `d` of the 80 rows of a head's values. -/
def at80 (d : Fin 64) : Fin 80 := ⟨d.val, by omega⟩

theorem values_apply (x : FVec Ideal S80x512 .f32) (d : Fin 64) (c : Fin 512) :
    extractStridedSlice S64x512 ![0, 0] x slices_S80x512_o0_0_S64x512 (ix2 d c) = x (ix2 (at80 d) c) :=
  extractStridedSlice_apply _ x slices_S80x512_o0_0_S64x512 _ _ fun a => by
    match a with
    | ⟨0, _⟩ => show d.val = 0 + d.val; omega
    | ⟨1, _⟩ => show c.val = 0 + c.val; omega

theorem spread_apply (x : FVec Ideal S1x512 .f32) (d : Fin 64) (c : Fin 512) :
    broadcastTo S64x512 x broadcasts_S1x512_S64x512 (ix2 d c) = x (ix2 (0 : Fin 1) c) :=
  broadcastTo_apply x broadcasts_S1x512_S64x512 (ix2 d c) (ix2 (0 : Fin 1) c) fun a => by
    match a with
    | ⟨0, _⟩ => rfl
    | ⟨1, _⟩ => rfl

theorem hM_apply (s : FVec Ideal S512x512 .f32) (m : FVec Ideal S1x512 .f32) (c : Fin 512) :
    hM s m (ix2 (0 : Fin 1) c) = newMax s m (ix2 (0 : Fin 1) c) := by
  unfold hM; rw [shapeCast_self]

theorem hL_apply (s : FVec Ideal S512x512 .f32) (v : Vec Ideal S1x80x512 .bf16) (m l : FVec Ideal S1x512 .f32) (c : Fin 512) :
    hL s v m l (ix2 (0 : Fin 1) c) = alpha s m (ix2 (0 : Fin 1) c) * l (ix2 (0 : Fin 1) c) + pv s (newMax s m) v (ix2 (64 : Fin 80) c) := by
  unfold hL; rw [shapeCast_self]
  exact congrArg (alpha s m (ix2 (0 : Fin 1) c) * l (ix2 (0 : Fin 1) c) + ·) (ones_apply _ c)

theorem hL'_apply (s : FVec Ideal S512x512 .f32) (v : Vec Ideal S1x80x512 .bf16) (m l : FVec Ideal S1x512 .f32) (c : Fin 512) :
    hL' s v m l (ix2 (0 : Fin 1) c) = alpha s m (ix2 (0 : Fin 1) c) * (l (ix2 (0 : Fin 1) c) + pv s m v (ix2 (64 : Fin 80) c)) := by
  unfold hL'; rw [shapeCast_self]
  exact congrArg (fun z => alpha s m (ix2 (0 : Fin 1) c) * (l (ix2 (0 : Fin 1) c) + z)) (ones_apply _ c)

theorem hA_apply (s : FVec Ideal S512x512 .f32) (v : Vec Ideal S1x80x512 .bf16) (m : FVec Ideal S1x512 .f32) (a : FVec Ideal S64x512 .f32) (d : Fin 64) (c : Fin 512) :
    hA s v m a (ix2 d c) = alpha s m (ix2 (0 : Fin 1) c) * a (ix2 d c) + pv s (newMax s m) v (ix2 (at80 d) c) := by
  unfold hA; rw [shapeCast_self]
  exact congrArg₂ (fun z w => z * a (ix2 d c) + w) (spread_apply _ d c) (values_apply _ d c)

theorem hA'_apply (s : FVec Ideal S512x512 .f32) (v : Vec Ideal S1x80x512 .bf16) (m : FVec Ideal S1x512 .f32) (a : FVec Ideal S64x512 .f32) (d : Fin 64) (c : Fin 512) :
    hA' s v m a (ix2 d c) = alpha s m (ix2 (0 : Fin 1) c) * (a (ix2 d c) + pv s m v (ix2 (at80 d) c)) := by
  unfold hA'; rw [shapeCast_self]
  exact congrArg₂ (fun z w => z * (a (ix2 d c) + w)) (spread_apply _ d c) (values_apply _ d c)

theorem quot_apply (a : FVec Ideal S64x512 .f32) (l : FVec Ideal S1x512 .f32) (d : Fin 64) (c : Fin 512) :
    quot a l (ix2 d c) = Ideal.div (a (ix2 d c)) (l (ix2 (0 : Fin 1) c)) := by
  unfold quot; rw [shapeCast_self]
  exact congrArg (Ideal.div (a (ix2 d c))) (spread_apply l d c)

/-- The tile's result at a query and a head's coordinate. -/
theorem result_apply (x : St Ideal) (c : Fin 512) (h : Fin 8) (d : Fin 64) :
    result x (ix2 c (at64 h d)) = Ideal.div (x.a (ix2 (at64 h d) c)) (x.l (ix2 h c)) := by
  unfold result
  refine (transpose_apply [1, 0] (put64 fun h => quot (row64 x.a h) (row1 x.l h)) transposes_S512x512_p1_0_S512x512 (ix2 c (at64 h d)) (ix2 (at64 h d) c) fun b => ?_).trans ?_
  · match b with
    | ⟨0, _⟩ => rfl
    | ⟨1, _⟩ => rfl
  · rw [put64_apply, quot_apply, row64_apply, row1_apply]

end Cert.Proof.Alg

end
-- ==== Proof.MaskIdeal.lean ====
/- The mask of a tile's own block, read at an entry: a key's group of 64 is no later than the query's. -/
module

public import proofs.«01_k».proof.Proof.SweepIdeal

@[expose] public section

set_option maxRecDepth 16384

noncomputable section

namespace Cert.Proof.Mask

open Cert.KernelIdeal Cert.KernelIdeal.Gen Cert.Proof.Step
open Idealize.ShloMosaic Idealize.ShloMosaic.TcCoe

/-- The floor of a word over 64, as the kernel computes it lane by lane. -/
def floor64 (x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 64#32 0#32)) (Scalar.extui (Scalar.cmpi .slt 64#32 0#32)))) (IntOp.cmpi .ne (IntOp.remsi .vector x 64#32) 0#32))
    (IntOp.subi (IntOp.divsi .vector x 64#32) 1#32) (IntOp.divsi .vector x 64#32)

theorem floor64_lt : ∀ n < 512, floor64 (BitVec.ofNat 32 (0 * 512 + n)) = BitVec.ofNat 32 (n / 64) := by decide +kernel

theorem row (r c : Fin 512) : k0_pay550 k0_pay547 k0_pay548 k0_pay549 (ix2 r c) = BitVec.ofNat 32 (r.val / 64) := floor64_lt r.val r.isLt

theorem col (r c : Fin 512) : k0_pay551 (ix2 r c) = BitVec.ofNat 32 (c.val / 64) := floor64_lt c.val c.isLt

theorem sle_groups : ∀ a < 8, ∀ b < 8, IntOp.cmpi .sle (IntOp.addi (BitVec.ofNat 32 a) 0#32) (BitVec.ofNat 32 b) = 1#1 ↔ a ≤ b := by decide +kernel

/-- The shift between the two places, over 64, rounded down: as the kernel computes it. -/
def shiftWord (x : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 64#32 0#32)) (Scalar.extui (Scalar.cmpi .slt 64#32 0#32)))) (Scalar.cmpi .ne (Scalar.remsi x 64#32) 0#32))
    (Scalar.subi (Scalar.divsi x 64#32) 1#32) (Scalar.divsi x 64#32)

theorem shift_first (i : grid0.Coords) : shiftWord (Scalar.subi (Scalar.muli (before i) 512#32) (start i)) = 0#32 := by
  have h := Words.tile_lt i
  unfold before start
  generalize (i 1).val = n at *
  interval_cases n <;> decide

theorem shift_second (i : grid0.Coords) : shiftWord (shift i) = 0#32 := by
  have h := Words.tile_lt i
  unfold shift before start
  generalize (i 1).val = n at *
  interval_cases n <;> decide

theorem entry (r c : Fin 512) {x y w : BitVec 32} (hx : x = BitVec.ofNat 32 (r.val / 64)) (hy : y = BitVec.ofNat 32 (c.val / 64)) (hw : w = 0#32) :
    IntOp.cmpi .sle (IntOp.addi x w) y = 1#1 ↔ r.val / 64 ≤ c.val / 64 := by
  subst hx hy hw
  have hr := r.isLt
  have hc := c.isLt
  exact sle_groups _ (by omega) _ (by omega)

theorem diag_iff (i : grid0.Coords) (r c : Fin 512) : diag i (ix2 r c) = 1#1 ↔ r.val / 64 ≤ c.val / 64 :=
  entry r c (row r c) (col r c) (shift_first i)

theorem diagAgain_iff (i : grid0.Coords) (r c : Fin 512) : diagAgain i (ix2 r c) = 1#1 ↔ r.val / 64 ≤ c.val / 64 :=
  entry r c (row r c) (col r c) (shift_second i)

end Cert.Proof.Mask

end
-- ==== Proof.SweepAlg.lean ====
/- The sweeps over the extended reals: what the tile's running sums are after every block, and the tile's result. -/
module

public import proofs.«01_k».proof.Proof.StepAlg
public import proofs.«01_k».proof.Proof.MaskIdeal

@[expose] public section

set_option maxRecDepth 16384

noncomputable section

namespace Cert.Proof.Alg

open Cert.KernelIdeal Cert.KernelIdeal.Gen Cert.Proof.Step Cert.Proof.Soft
open Idealize.ShloMosaic Idealize.ShloMosaic.TcCoe

/-! ### Scores and values by key -/

/-- The score of key `κ` against query `c` of the tile, for head `h`. -/
def sc (q : Vec Ideal S1x1024x512 .bf16) (k : Vec Ideal S8192x1024 .bf16) (h : Fin 8) (c : Fin 512) (κ : ℕ) : EReal :=
  ∑ x : Fin 128, k (ix2 (⟨κ % 8192, Nat.mod_lt _ (by decide)⟩ : Fin 8192) (⟨128 * h.val + x.val, by omega⟩ : Fin 1024)) *
    q (ix3 (0 : Fin 1) (⟨128 * h.val + x.val, by omega⟩ : Fin 1024) c)

/-- Coordinate `e` of key `κ`'s value, for head `h`. -/
def vl (v : Vec Ideal S16x640x512 .bf16) (h : Fin 8) (e : Fin 80) (κ : ℕ) : EReal :=
  v (ix3 (⟨κ / 512 % 16, Nat.mod_lt _ (by decide)⟩ : Fin 16) (⟨80 * h.val + e.val, by omega⟩ : Fin 640) (⟨κ % 512, Nat.mod_lt _ (by decide)⟩ : Fin 512))

theorem blockScores_apply (q : Vec Ideal S1x1024x512 .bf16) (k : Vec Ideal S8192x1024 .bf16) {j : ℕ} (hj : j < 16) (h : Fin 8) (r c : Fin 512) :
    blockScores q k j h (ix2 r c) = sc q k h c (512 * j + r.val) := by
  unfold blockScores scores
  rw [score_apply]
  refine Finset.sum_congr rfl fun x _ => congrArg₂ (· * ·) (congrArg k (funext fun a => Fin.ext ?_)) (congrArg q (funext fun a => Fin.ext ?_))
  · match a with
    | ⟨0, _⟩ => show 512 * (j % 16) + 1 * r.val = (512 * j + r.val) % 8192; omega
    | ⟨1, _⟩ => show 128 * h.val + 1 * x.val = 128 * h.val + x.val; omega
  · match a with
    | ⟨0, _⟩ => rfl
    | ⟨1, _⟩ => show 128 * h.val + 1 * x.val = 128 * h.val + x.val; omega
    | ⟨2, _⟩ => show 0 + 1 * c.val = c.val; omega

theorem blockValues_apply (v : Vec Ideal S16x640x512 .bf16) {j : ℕ} (hj : j < 16) (h : Fin 8) (e : Fin 80) (r : Fin 512) :
    blockValues v j h (ix3 (0 : Fin 1) e r) = vl v h e (512 * j + r.val) := by
  refine congrArg v (funext fun a => Fin.ext ?_)
  match a with
  | ⟨0, _⟩ => show j % 16 + 1 * 0 = (512 * j + r.val) / 512 % 16; omega
  | ⟨1, _⟩ => show 80 * h.val + 1 * e.val = 80 * h.val + e.val; omega
  | ⟨2, _⟩ => show 0 + 1 * r.val = (512 * j + r.val) % 512; omega

/-! ### What holds after `n` blocks -/

/-- After the first `n` blocks: the sums of the weights and of the weighted values, relative to some real. -/
def Holds (σ : Fin 8 → Fin 512 → ℕ → EReal) (ν : Fin 8 → Fin 64 → ℕ → EReal) (n : ℕ) (x : St Ideal) : Prop :=
  ∀ h c, ∃ M : ℝ, x.m (ix2 h c) = (M : EReal) ∧ x.l (ix2 h c) = pw M * ∑ κ ∈ Finset.range (512 * n), Ideal.exp2 (σ h c κ) ∧
    ∀ d, x.a (ix2 (at64 h d) c) = pw M * ∑ κ ∈ Finset.range (512 * n), ν h d κ * Ideal.exp2 (σ h c κ)

theorem sum_next (f : ℕ → EReal) (n : ℕ) : ∑ κ ∈ Finset.range (512 * (n + 1)), f κ = ∑ κ ∈ Finset.range (512 * n), f κ + ∑ r : Fin 512, f (512 * n + r.val) := by
  rw [Nat.mul_succ, Finset.sum_range_add, Finset.sum_range (fun x => f (512 * n + x))]

section
variable {σ : Fin 8 → Fin 512 → ℕ → EReal} {ν : Fin 8 → Fin 64 → ℕ → EReal} {n : ℕ} {x : St Ideal}
  {s : Fin 8 → FVec Ideal S512x512 .f32} {v : Fin 8 → Vec Ideal S1x80x512 .bf16}

theorem fresh_m (h : Fin 8) (c : Fin 512) : (fresh s v x).m (ix2 h c) = newMax (s h) (row1 x.m h) (ix2 (0 : Fin 1) c) := hM_apply _ _ _

theorem fresh_l (h : Fin 8) (c : Fin 512) : (fresh s v x).l (ix2 h c) =
    Ideal.exp2 (x.m (ix2 h c) - newMax (s h) (row1 x.m h) (ix2 (0 : Fin 1) c)) * x.l (ix2 h c) +
      ∑ r : Fin 512, v h (ix3 (0 : Fin 1) (64 : Fin 80) r) * Ideal.exp2 (s h (ix2 r c) - newMax (s h) (row1 x.m h) (ix2 (0 : Fin 1) c)) := by
  refine (hL_apply (s h) (v h) (row1 x.m h) (row1 x.l h) c).trans ?_
  rw [alpha_apply, pv_apply, row1_apply, row1_apply]

theorem fresh_a (h : Fin 8) (d : Fin 64) (c : Fin 512) : (fresh s v x).a (ix2 (at64 h d) c) =
    Ideal.exp2 (x.m (ix2 h c) - newMax (s h) (row1 x.m h) (ix2 (0 : Fin 1) c)) * x.a (ix2 (at64 h d) c) +
      ∑ r : Fin 512, v h (ix3 (0 : Fin 1) (at80 d) r) * Ideal.exp2 (s h (ix2 r c) - newMax (s h) (row1 x.m h) (ix2 (0 : Fin 1) c)) := by
  refine (put64_apply (fun h => hA (s h) (v h) (row1 x.m h) (row64 x.a h)) h d c).trans ?_
  rw [hA_apply, alpha_apply, pv_apply, row1_apply, row64_apply]

theorem stale_m (h : Fin 8) (c : Fin 512) : (stale s v x).m (ix2 h c) = newMax (s h) (row1 x.m h) (ix2 (0 : Fin 1) c) := hM_apply _ _ _

theorem stale_l (h : Fin 8) (c : Fin 512) : (stale s v x).l (ix2 h c) =
    Ideal.exp2 (x.m (ix2 h c) - newMax (s h) (row1 x.m h) (ix2 (0 : Fin 1) c)) * (x.l (ix2 h c) +
      ∑ r : Fin 512, v h (ix3 (0 : Fin 1) (64 : Fin 80) r) * Ideal.exp2 (s h (ix2 r c) - x.m (ix2 h c))) := by
  refine (hL'_apply (s h) (v h) (row1 x.m h) (row1 x.l h) c).trans ?_
  rw [alpha_apply, pv_apply, row1_apply, row1_apply]

theorem stale_a (h : Fin 8) (d : Fin 64) (c : Fin 512) : (stale s v x).a (ix2 (at64 h d) c) =
    Ideal.exp2 (x.m (ix2 h c) - newMax (s h) (row1 x.m h) (ix2 (0 : Fin 1) c)) * (x.a (ix2 (at64 h d) c) +
      ∑ r : Fin 512, v h (ix3 (0 : Fin 1) (at80 d) r) * Ideal.exp2 (s h (ix2 r c) - x.m (ix2 h c))) := by
  refine (put64_apply (fun h => hA' (s h) (v h) (row1 x.m h) (row64 x.a h)) h d c).trans ?_
  rw [hA'_apply, alpha_apply, pv_apply, row1_apply, row64_apply]

variable (hs : ∀ h r c, s h (ix2 r c) = σ h c (512 * n + r.val)) (hv : ∀ h d r, v h (ix3 (0 : Fin 1) (at80 d) r) = ν h d (512 * n + r.val))
  (h1 : ∀ h r, v h (ix3 (0 : Fin 1) (64 : Fin 80) r) = 1) (ht : ∀ h c κ, σ h c κ ≠ ⊤)
include hs hv h1 ht

theorem newMax_real {h : Fin 8} {c : Fin 512} {M : ℝ} (hm : x.m (ix2 h c) = (M : EReal)) : ∃ M' : ℝ, newMax (s h) (row1 x.m h) (ix2 (0 : Fin 1) c) = (M' : EReal) := by
  rw [newMax_apply, row1_apply, hm]
  exact max_real M (fold_max_ne_top _ _ fun r _ => by rw [hs]; exact ht _ _ _)

theorem Holds.fresh (hx : Holds σ ν n x) : Holds σ ν (n + 1) (fresh s v x) := by
  intro h c
  obtain ⟨M, hm, hl, ha⟩ := hx h c
  obtain ⟨M', hM'⟩ := newMax_real hs hv h1 ht hm
  refine ⟨M', (fresh_m h c).trans hM', ?_, fun d => ?_⟩
  · rw [fresh_l, hM', hm, hl, sum_next]
    have := fresh_step Finset.univ (fun _ : Fin 512 => (1 : EReal)) (fun r : Fin 512 => σ h c (512 * n + r.val)) (fun _ _ => ht _ _ _) M M'
      (∑ κ ∈ Finset.range (512 * n), Ideal.exp2 (σ h c κ))
    simp only [h1, hs]
    simpa only [one_mul] using this
  · rw [fresh_a, hM', hm, ha, sum_next]
    simp only [hv, hs]
    exact fresh_step Finset.univ (fun r : Fin 512 => ν h d (512 * n + r.val)) (fun r : Fin 512 => σ h c (512 * n + r.val)) (fun _ _ => ht _ _ _) M M' _

theorem Holds.stale (hx : Holds σ ν n x) : Holds σ ν (n + 1) (stale s v x) := by
  intro h c
  obtain ⟨M, hm, hl, ha⟩ := hx h c
  obtain ⟨M', hM'⟩ := newMax_real hs hv h1 ht hm
  refine ⟨M', (stale_m h c).trans hM', ?_, fun d => ?_⟩
  · rw [stale_l, hM', hm, hl, sum_next]
    have := stale_step Finset.univ (fun _ : Fin 512 => (1 : EReal)) (fun r : Fin 512 => σ h c (512 * n + r.val)) (fun _ _ => ht _ _ _) M M'
      (∑ κ ∈ Finset.range (512 * n), Ideal.exp2 (σ h c κ))
    simp only [h1, hs]
    simpa only [one_mul] using this
  · rw [stale_a, hM', hm, ha, sum_next]
    simp only [hv, hs]
    exact stale_step Finset.univ (fun r : Fin 512 => ν h d (512 * n + r.val)) (fun r : Fin 512 => σ h c (512 * n + r.val)) (fun _ _ => ht _ _ _) M M' _

/-- The first block, from nothing seen. -/
theorem Holds.first (hn : n = 0) (hb : ∀ h c, σ h c 0 ≠ ⊥) (xm : ∀ h c, x.m (ix2 h c) = ⊥) (xl : ∀ h c, x.l (ix2 h c) = 0) (xa : ∀ r c, x.a (ix2 r c) = 0) :
    Holds σ ν (n + 1) (Step.fresh s v x) := by
  subst hn
  intro h c
  obtain ⟨M', hM'⟩ : ∃ M' : ℝ, newMax (s h) (row1 x.m h) (ix2 (0 : Fin 1) c) = (M' : EReal) := by
    rw [newMax_apply, row1_apply, xm, max_eq_right bot_le]
    exact real_of (fold_max_ne_bot _ _ (Finset.mem_univ (0 : Fin 512)) (by rw [hs]; exact hb _ _)) (fold_max_ne_top _ _ fun r _ => by rw [hs]; exact ht _ _ _)
  refine ⟨M', (fresh_m h c).trans hM', ?_, fun d => ?_⟩
  · rw [fresh_l, hM', xm, xl, sum_next, Nat.mul_zero, Finset.range_zero, Finset.sum_empty, zero_add]
    have := first_step Finset.univ (fun _ : Fin 512 => (1 : EReal)) (fun r : Fin 512 => σ h c (512 * 0 + r.val)) (fun _ _ => ht _ _ _) M'
    simp only [h1, hs]
    simpa only [one_mul] using this
  · rw [fresh_a, hM', xm, xa, sum_next, Nat.mul_zero, Finset.range_zero, Finset.sum_empty, zero_add]
    simp only [hv, hs]
    exact first_step Finset.univ (fun r : Fin 512 => ν h d (512 * 0 + r.val)) (fun r : Fin 512 => σ h c (512 * 0 + r.val)) (fun _ _ => ht _ _ _) M'

end

/-! ### The tile -/

/-- The score where key `κ`'s group of 64 is no later than that of query `c` of tile `t`, and `⊥` elsewhere. -/
def seen (q : Vec Ideal S1x1024x512 .bf16) (k : Vec Ideal S8192x1024 .bf16) (t : ℕ) (h : Fin 8) (c : Fin 512) (κ : ℕ) : EReal :=
  if κ / 64 ≤ (512 * t + c.val) / 64 then sc q k h c κ else ⊥

section
variable (q : Vec Ideal S1x1024x512 .bf16) (k : Vec Ideal S8192x1024 .bf16) (v : Vec Ideal S16x640x512 .bf16)
  (ht : ∀ h c κ, sc q k h c κ ≠ ⊤) (hb : ∀ h c κ, sc q k h c κ ≠ ⊥) (h1 : ∀ h κ, vl v h 64 κ = 1)

/-- What holds after the first `n` blocks of tile `t`. -/
abbrev At (t n : ℕ) (x : St Ideal) : Prop := Holds (seen q k t) (fun h d => vl v h (at80 d)) n x

theorem seen_plain {t j : ℕ} (hj : j < t) (ht16 : t < 16) (h : Fin 8) (r c : Fin 512) : blockScores q k j h (ix2 r c) = seen q k t h c (512 * j + r.val) := by
  have := r.isLt
  rw [blockScores_apply q k (by omega), seen, if_pos (by omega)]

theorem seen_masked {t : ℕ} (ht16 : t < 16) {w : IVec S512x512 1} (hw : ∀ r c : Fin 512, w (ix2 r c) = 1#1 ↔ r.val / 64 ≤ c.val / 64) (h : Fin 8) (r c : Fin 512) :
    masked w (blockScores q k t h) (ix2 r c) = seen q k t h c (512 * t + r.val) := by
  rw [masked_apply, blockScores_apply q k ht16, seen]
  exact if_congr ((hw r c).trans (by omega)) rfl rfl

include ht in
theorem seen_ne_top (t : ℕ) (h : Fin 8) (c : Fin 512) (κ : ℕ) : seen q k t h c κ ≠ ⊤ := by
  unfold seen; split
  · exact ht _ _ _
  · exact bot_ne_top

include hb in
theorem seen_zero (t : ℕ) (h : Fin 8) (c : Fin 512) : seen q k t h c 0 ≠ ⊥ := by
  rw [seen, if_pos (by simp)]; exact hb _ _ _

/-- A state in which nothing has been seen. -/
def Empty (x : St Ideal) : Prop := (∀ h c, x.m (ix2 h c) = ⊥) ∧ (∀ h c, x.l (ix2 h c) = 0) ∧ ∀ r c, x.a (ix2 r c) = 0

theorem init_empty : Empty init :=
  ⟨fun h c => (congrFun (shapeCast_self (broadcast S8x512 (Named.named (F := Ideal) κ "mask" (φ := .f32) 0xF149F2CA#32)) shapeCasts_S8x512_S8x512) (ix2 h c)).trans rfl,
   fun h c => (congrFun (shapeCast_self (broadcast S8x512 (Scalar.ofBits (F := Ideal) .f32 0x00000000#32)) shapeCasts_S8x512_S8x512) (ix2 h c)).trans Ideal.ofBits_zero_f32,
   fun r c => (congrFun (shapeCast_self (broadcast S512x512 (Scalar.ofBits (F := Ideal) .f32 0x00000000#32)) shapeCasts_S512x512_S512x512) (ix2 r c)).trans Ideal.ofBits_zero_f32⟩

theorem again_empty (x : St Ideal) : Empty (again x) :=
  ⟨fun h c => (congrFun (shapeCast_self (broadcast S8x512 (Named.named (F := Ideal) κ "mask" (φ := .f32) 0xF149F2CA#32)) shapeCasts_S8x512_S8x512) (ix2 h c)).trans rfl,
   fun h c => (congrFun (shapeCast_self (broadcast S8x512 (Scalar.ofBits (F := Ideal) .f32 0x00000000#32)) shapeCasts_S8x512_S8x512) (ix2 h c)).trans Ideal.ofBits_zero_f32,
   fun r c => (congrFun (shapeCast_self (broadcast S512x512 (Scalar.ofBits (F := Ideal) .f32 0x00000000#32)) shapeCasts_S512x512_S512x512) (ix2 r c)).trans Ideal.ofBits_zero_f32⟩

include ht hb h1

theorem first_plain {t : ℕ} (t0 : 0 < t) (ht16 : t < 16) {x : St Ideal} (hx : Empty x) : At q k v t 1 (freshAt q k v 0 x) :=
  Holds.first (n := 0) (fun h r c => seen_plain q k t0 ht16 h r c) (fun h d r => blockValues_apply v (by omega) h _ r)
    (fun h r => (blockValues_apply v (by omega) h _ r).trans (h1 _ _)) (seen_ne_top q k ht t) rfl (seen_zero q k hb t) hx.1 hx.2.1 hx.2.2

theorem fresh_plain {t j : ℕ} (hj : j < t) (ht16 : t < 16) {x : St Ideal} (hx : At q k v t j x) : At q k v t (j + 1) (freshAt q k v j x) :=
  Holds.fresh (fun h r c => seen_plain q k hj ht16 h r c) (fun h d r => blockValues_apply v (by omega) h _ r)
    (fun h r => (blockValues_apply v (by omega) h _ r).trans (h1 _ _)) (seen_ne_top q k ht t) hx

theorem stale_plain {t j : ℕ} (hj : j < t) (ht16 : t < 16) {x : St Ideal} (hx : At q k v t j x) : At q k v t (j + 1) (staleAt q k v j x) :=
  Holds.stale (fun h r c => seen_plain q k hj ht16 h r c) (fun h d r => blockValues_apply v (by omega) h _ r)
    (fun h r => (blockValues_apply v (by omega) h _ r).trans (h1 _ _)) (seen_ne_top q k ht t) hx

section
variable {w : IVec S512x512 1} (hw : ∀ r c : Fin 512, w (ix2 r c) = 1#1 ↔ r.val / 64 ≤ c.val / 64)
include hw

theorem first_masked {x : St Ideal} (hx : Empty x) : At q k v 0 1 (freshMasked w q k v 0 x) :=
  Holds.first (n := 0) (fun h r c => seen_masked q k (by omega) hw h r c) (fun h d r => blockValues_apply v (by omega) h _ r)
    (fun h r => (blockValues_apply v (by omega) h _ r).trans (h1 _ _)) (seen_ne_top q k ht 0) rfl (seen_zero q k hb 0) hx.1 hx.2.1 hx.2.2

theorem fresh_masked {t : ℕ} (ht16 : t < 16) {x : St Ideal} (hx : At q k v t t x) : At q k v t (t + 1) (freshMasked w q k v t x) :=
  Holds.fresh (fun h r c => seen_masked q k ht16 hw h r c) (fun h d r => blockValues_apply v ht16 h _ r)
    (fun h r => (blockValues_apply v ht16 h _ r).trans (h1 _ _)) (seen_ne_top q k ht t) hx

theorem stale_masked {t : ℕ} (ht16 : t < 16) {x : St Ideal} (hx : At q k v t t x) : At q k v t (t + 1) (staleMasked w q k v t x) :=
  Holds.stale (fun h r c => seen_masked q k ht16 hw h r c) (fun h d r => blockValues_apply v ht16 h _ r)
    (fun h r => (blockValues_apply v ht16 h _ r).trans (h1 _ _)) (seen_ne_top q k ht t) hx

end

theorem stale_upTo {t : ℕ} (ht16 : t < 16) {x : St Ideal} (hx : At q k v t 1 x) (n : ℕ) (hn : n < t) : At q k v t (n + 1) (staleUpTo q k v x n) := by
  induction n with
  | zero => exact hx
  | succ n ih => exact stale_plain q k v ht hb h1 hn ht16 (ih (by omega))

theorem fresh_upTo {t : ℕ} (ht16 : t < 16) {x : St Ideal} (hx : Empty x) (n : ℕ) (hn : n < t) : At q k v t (n + 1) (freshUpTo q k v x (n + 1)) := by
  induction n with
  | zero => exact first_plain q k v ht hb h1 hn ht16 hx
  | succ n ih => exact fresh_plain q k v ht hb h1 hn ht16 (ih (by omega))

theorem sweep_at {t : ℕ} (t16 : t < 16) {w : IVec S512x512 1} (hw : ∀ r c : Fin 512, w (ix2 r c) = 1#1 ↔ r.val / 64 ≤ c.val / 64) :
    At q k v t (t + 1) (if 0 < t then staleMasked w q k v t (staleUpTo q k v (freshAt q k v 0 init) (t - 1)) else freshMasked w q k v t init) := by
  split
  · rename_i t0
    obtain ⟨n, rfl⟩ : ∃ n, t = n + 1 := ⟨t - 1, by omega⟩
    exact stale_masked q k v ht hb h1 hw t16 (stale_upTo q k v ht hb h1 t16 (first_plain q k v ht hb h1 t0 t16 init_empty) n (by omega))
  · obtain rfl : t = 0 := by omega
    exact first_masked q k v ht hb h1 hw init_empty

theorem resweep_at {t : ℕ} (t16 : t < 16) {w : IVec S512x512 1} (hw : ∀ r c : Fin 512, w (ix2 r c) = 1#1 ↔ r.val / 64 ≤ c.val / 64) {x : St Ideal} (hx : Empty x) :
    At q k v t (t + 1) (freshMasked w q k v t (freshUpTo q k v x t)) := by
  match t, t16 with
  | 0, _ => exact first_masked q k v ht hb h1 hw hx
  | n + 1, t16 => exact fresh_masked q k v ht hb h1 hw t16 (fresh_upTo q k v ht hb h1 t16 hx n (by omega))

theorem sweep_holds (i : grid0.Coords) : At q k v (Words.tile i) (Words.tile i + 1) (sweep i q k v) :=
  sweep_at q k v ht hb h1 (Words.tile_lt i) (Mask.diag_iff i)

theorem resweep_holds (i : grid0.Coords) (x : St Ideal) : At q k v (Words.tile i) (Words.tile i + 1) (resweep i q k v x) :=
  resweep_at q k v ht hb h1 (Words.tile_lt i) (Mask.diagAgain_iff i) (again_empty x)

theorem last_holds (i : grid0.Coords) : At q k v (Words.tile i) (Words.tile i + 1) (last i q k v) := by
  unfold last; split
  · exact resweep_holds q k v ht hb h1 i _
  · exact sweep_holds q k v ht hb h1 i

/-- The tile's result at query `c`, head `h`, coordinate `d`: the mean of the values over all keys, weighed by two to the
    score where the key is seen. -/
theorem tileOut_apply (i : grid0.Coords) (c : Fin 512) (h : Fin 8) (d : Fin 64) :
    tileOut i q k v (ix2 c (at64 h d)) = mean (Finset.range 8192) (vl v h (at80 d)) (seen q k (Words.tile i) h c) := by
  obtain ⟨M, hm, hl, ha⟩ := last_holds q k v ht hb h1 i h c
  have t16 : Words.tile i < 16 := Words.tile_lt i
  generalize Words.tile i = t at *
  unfold tileOut
  rw [result_apply, ha, hl, div_running _ _ _ (fun κ _ => seen_ne_top q k ht _ h c κ) (j := 0) (Finset.mem_range.mpr (by omega)) (seen_zero q k hb _ h c)]
  refine mean_subset (Finset.range_subset_range.mpr (by omega)) _ _ fun κ hκ hn => ?_
  have h2 := c.isLt
  have h3 : ¬ κ < 512 * (t + 1) := fun e => hn (Finset.mem_range.mpr e)
  rw [seen, if_neg (by omega)]

end

end Cert.Proof.Alg

end
-- ==== Proof.RefWords.lean ====
/- The reference's group words: the floor division of a position by 64 and the comparison of two groups. -/
module

public import Idealize.ShloMosaic.PureOps.Vector

@[expose] public section

set_option maxRecDepth 16384

namespace Cert.Proof.Ref

open Idealize.ShloMosaic

/-- The host's sign of a word. -/
def sgn (x : BitVec 32) : BitVec 32 := if x = 0 then 0 else if x.msb then -1 else 1

/-- The host's floor division of a word by 64. -/
def grp (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

theorem grp_nat : ∀ n < 8192, grp (BitVec.ofNat 32 n) = BitVec.ofNat 32 (n / 64) := by decide +kernel

theorem le_words : ∀ a < 128, ∀ b < 128, IntOp.cmpi .sle (BitVec.ofNat 32 a) (BitVec.ofNat 32 b) = if a ≤ b then 1#1 else 0#1 := by decide +kernel

end Cert.Proof.Ref
-- ==== Proof.RefIdeal.lean ====
/- The reference over the extended reals, read at an index: each result element is the mean of the values under the weights
   two to the score, over the keys whose group is not after the query's. -/
module

public import proofs.«01_k».proof.Proof.Gen.ReferenceIdeal.Read
public import proofs.«01_k».proof.Proof.Soft
public import proofs.«01_k».proof.Proof.RefWords
public import Idealize.ShloMosaic.Lib.Pointwise.Index

@[expose] public section

set_option maxRecDepth 16384

noncomputable section

namespace Cert.Proof.Ref

open Cert.ReferenceIdeal Cert.ReferenceIdeal.Gen Cert.ReferenceIdeal.Read Cert.Proof.Soft
open Idealize.ShloMosaic Idealize.ShloMosaic.TcCoe

/-- The queries, the keys and the values, as the reference takes them. -/
abbrev Q := (⟨S34x1024x512, .bf16⟩ : BufTy).Contents (Elt Ideal)
abbrev K := (⟨S16384x1024, .bf16⟩ : BufTy).Contents (Elt Ideal)
abbrev V := (⟨S32x640x512, .bf16⟩ : BufTy).Contents (Elt Ideal)

/-- The score of query `q` against key `κ`: the product of their head-`h` rows. -/
def score (x0 : Q) (x1 : K) (b : Fin 2) (h : Fin 8) (q κ : Fin 8192) : EReal :=
  ∑ x : Fin 128, x0 (ix3 (⟨16 * b.val + q.val / 512, by omega⟩ : Fin 34) (⟨128 * h.val + x.val, by omega⟩ : Fin 1024) (⟨q.val % 512, by omega⟩ : Fin 512)) *
    x1 (ix2 (⟨8192 * b.val + κ.val, by omega⟩ : Fin 16384) (⟨128 * h.val + x.val, by omega⟩ : Fin 1024))

/-- The score where the key's group of 64 is not after the query's, `⊥` elsewhere. -/
def shown (x0 : Q) (x1 : K) (b : Fin 2) (h : Fin 8) (q κ : Fin 8192) : EReal :=
  if κ.val / 64 ≤ q.val / 64 then score x0 x1 b h q κ else ⊥

/-- Coordinate `d` of key `κ`'s value. -/
def value (x2 : V) (b : Fin 2) (h : Fin 8) (d : Fin 64) (κ : Fin 8192) : EReal :=
  x2 (ix3 (⟨16 * b.val + κ.val / 512, by omega⟩ : Fin 32) (⟨80 * h.val + d.val, by omega⟩ : Fin 640) (⟨κ.val % 512, by omega⟩ : Fin 512))

/-- The index of a score. -/
def at4 (b : Fin 2) (h : Fin 8) (q κ : Fin 8192) : S2x8x8192x8192.Idx := fun a => match a with
  | ⟨0, _⟩ => b
  | ⟨1, _⟩ => h
  | ⟨2, _⟩ => q
  | ⟨3, _⟩ => κ

/-- The index of a query's row of scores. -/
def at3 (b : Fin 2) (h : Fin 8) (q : Fin 8192) : S2x8x8192.Idx := fun a => match a with
  | ⟨0, _⟩ => b
  | ⟨1, _⟩ => h
  | ⟨2, _⟩ => q

/-! ### The layouts -/

theorem v3_read (x0 : Q) (i : S2x16x512x8x128.Idx) :
    val_main_v3 (F := Ideal) x0 i = x0 (ix3 (⟨16 * (i 0).val + (i 1).val, by have := (i 0).isLt; have := (i 1).isLt; change (i 0).val < 2 at *; change (i 1).val < 16 at *; omega⟩ : Fin 34)
      (⟨128 * (i 3).val + (i 4).val, by have := (i 3).isLt; have := (i 4).isLt; change (i 3).val < 8 at *; change (i 4).val < 128 at *; omega⟩ : Fin 1024) (i 2)) := by
  rw [val_main_v3_apply, val_main_v2_apply, val_main_v1_apply, val_main_v0_apply, Ideal.extf_def]
  have h0 : (i 0).val < 2 := (i 0).isLt
  have h1 : (i 1).val < 16 := (i 1).isLt
  have h2 : (i 2).val < 512 := (i 2).isLt
  have h3 : (i 3).val < 8 := (i 3).isLt
  have h4 : (i 4).val < 128 := (i 4).isLt
  refine congrArg x0 (funext fun a => Fin.ext ?_)
  match a with
  | ⟨0, _⟩ => show (((((i 0).val * 16 + (i 1).val) * 8 + (i 3).val) * 128 + (i 4).val) * 512 + (i 2).val) / 524288 = 16 * (i 0).val + (i 1).val; omega
  | ⟨1, _⟩ => show (((((i 0).val * 16 + (i 1).val) * 8 + (i 3).val) * 128 + (i 4).val) * 512 + (i 2).val) / 512 % 1024 = 128 * (i 3).val + (i 4).val; omega
  | ⟨2, _⟩ => show (((((i 0).val * 16 + (i 1).val) * 8 + (i 3).val) * 128 + (i 4).val) * 512 + (i 2).val) % 512 = (i 2).val; omega

theorem v4_read (x0 : Q) (i : S2x8192x8x128.Idx) (b : Fin 2) (q : Fin 8192) (h : Fin 8) (x : Fin 128)
    (e0 : (i 0).val = b.val) (e1 : (i 1).val = q.val) (e2 : (i 2).val = h.val) (e3 : (i 3).val = x.val) :
    val_main_v4 (F := Ideal) x0 i = x0 (ix3 (⟨16 * b.val + q.val / 512, by omega⟩ : Fin 34) (⟨128 * h.val + x.val, by omega⟩ : Fin 1024) (⟨q.val % 512, by omega⟩ : Fin 512)) := by
  rw [val_main_v4_apply, v3_read]
  refine congrArg x0 (funext fun a => Fin.ext ?_)
  match a with
  | ⟨0, _⟩ =>
    show 16 * (((((i 0).val * 8192 + (i 1).val) * 8 + (i 2).val) * 128 + (i 3).val) / 8388608) + ((((i 0).val * 8192 + (i 1).val) * 8 + (i 2).val) * 128 + (i 3).val) / 524288 % 16 = 16 * b.val + q.val / 512
    rw [e0, e1, e2, e3]; omega
  | ⟨1, _⟩ =>
    show 128 * (((((i 0).val * 8192 + (i 1).val) * 8 + (i 2).val) * 128 + (i 3).val) / 128 % 8) + ((((i 0).val * 8192 + (i 1).val) * 8 + (i 2).val) * 128 + (i 3).val) % 128 = 128 * h.val + x.val
    rw [e0, e1, e2, e3]; omega
  | ⟨2, _⟩ =>
    show ((((i 0).val * 8192 + (i 1).val) * 8 + (i 2).val) * 128 + (i 3).val) / 1024 % 512 = q.val % 512
    rw [e0, e1, e2, e3]; omega

theorem v6_read (x1 : K) (i : S2x8192x8x128.Idx) (b : Fin 2) (κ : Fin 8192) (h : Fin 8) (x : Fin 128)
    (e0 : (i 0).val = b.val) (e1 : (i 1).val = κ.val) (e2 : (i 2).val = h.val) (e3 : (i 3).val = x.val) :
    val_main_v6 (F := Ideal) x1 i = x1 (ix2 (⟨8192 * b.val + κ.val, by omega⟩ : Fin 16384) (⟨128 * h.val + x.val, by omega⟩ : Fin 1024)) := by
  rw [val_main_v6_apply, val_main_v5_apply, Ideal.extf_def]
  refine congrArg x1 (funext fun a => Fin.ext ?_)
  match a with
  | ⟨0, _⟩ =>
    show ((((i 0).val * 8192 + (i 1).val) * 8 + (i 2).val) * 128 + (i 3).val) / 1024 = 8192 * b.val + κ.val
    rw [e0, e1, e2, e3]; omega
  | ⟨1, _⟩ =>
    show ((((i 0).val * 8192 + (i 1).val) * 8 + (i 2).val) * 128 + (i 3).val) % 1024 = 128 * h.val + x.val
    rw [e0, e1, e2, e3]; omega

theorem v10_read (x2 : V) (i : S2x16x512x8x64.Idx) :
    val_main_v10 (F := Ideal) x2 i = x2 (ix3 (⟨16 * (i 0).val + (i 1).val, by have := (i 0).isLt; have := (i 1).isLt; change (i 0).val < 2 at *; change (i 1).val < 16 at *; omega⟩ : Fin 32)
      (⟨80 * (i 3).val + (i 4).val, by have := (i 3).isLt; have := (i 4).isLt; change (i 3).val < 8 at *; change (i 4).val < 64 at *; omega⟩ : Fin 640) (i 2)) := by
  rw [val_main_v10_apply, val_main_v9_apply, val_main_v8_apply, val_main_v7_apply, Ideal.extf_def]
  have h0 : (i 0).val < 2 := (i 0).isLt
  have h1 : (i 1).val < 16 := (i 1).isLt
  have h2 : (i 2).val < 512 := (i 2).isLt
  have h3 : (i 3).val < 8 := (i 3).isLt
  have h4 : (i 4).val < 64 := (i 4).isLt
  refine congrArg x2 (funext fun a => Fin.ext ?_)
  match a with
  | ⟨0, _⟩ => show (((((i 0).val * 16 + (i 1).val) * 8 + (i 3).val) * 80 + (i 4).val) * 512 + (i 2).val) / 327680 = 16 * (i 0).val + (i 1).val; omega
  | ⟨1, _⟩ => show (((((i 0).val * 16 + (i 1).val) * 8 + (i 3).val) * 80 + (i 4).val) * 512 + (i 2).val) / 512 % 640 = 80 * (i 3).val + (i 4).val; omega
  | ⟨2, _⟩ => show (((((i 0).val * 16 + (i 1).val) * 8 + (i 3).val) * 80 + (i 4).val) * 512 + (i 2).val) % 512 = (i 2).val; omega

theorem v11_read (x2 : V) (i : S2x8192x8x64.Idx) (b : Fin 2) (κ : Fin 8192) (h : Fin 8) (d : Fin 64)
    (e0 : (i 0).val = b.val) (e1 : (i 1).val = κ.val) (e2 : (i 2).val = h.val) (e3 : (i 3).val = d.val) :
    val_main_v11 (F := Ideal) x2 i = value x2 b h d κ := by
  rw [val_main_v11_apply, v10_read]
  refine congrArg x2 (funext fun a => Fin.ext ?_)
  match a with
  | ⟨0, _⟩ =>
    show 16 * (((((i 0).val * 8192 + (i 1).val) * 8 + (i 2).val) * 64 + (i 3).val) / 4194304) + ((((i 0).val * 8192 + (i 1).val) * 8 + (i 2).val) * 64 + (i 3).val) / 262144 % 16 = 16 * b.val + κ.val / 512
    rw [e0, e1, e2, e3]; omega
  | ⟨1, _⟩ =>
    show 80 * (((((i 0).val * 8192 + (i 1).val) * 8 + (i 2).val) * 64 + (i 3).val) / 64 % 8) + ((((i 0).val * 8192 + (i 1).val) * 8 + (i 2).val) * 64 + (i 3).val) % 64 = 80 * h.val + d.val
    rw [e0, e1, e2, e3]; omega
  | ⟨2, _⟩ =>
    show ((((i 0).val * 8192 + (i 1).val) * 8 + (i 2).val) * 64 + (i 3).val) / 512 % 512 = κ.val % 512
    rw [e0, e1, e2, e3]; omega

/-! ### The groups -/

theorem v20_read (i : S1x8192.Idx) : val_main_v20 (F := Ideal) i = BitVec.ofNat 32 ((i 1).val / 64) := by
  refine Eq.trans ?_ (grp_nat (i 1).val (i 1).isLt)
  rw [val_main_v20_apply, val_main_call0_v11_apply, val_main_call0_v6_apply, val_main_call0_v10_apply, val_main_call0_v13_apply, val_main_call0_v5_apply,
    val_main_call0_v8_apply, val_main_call0_v9_apply, val_main_call0_v12_apply, val_main_call0_v2_apply, val_main_call0_v1_apply, val_main_call0_v7_apply]
  have e3 : val_main_call0_v3 (F := Ideal) i = sgn (val_main_v19 (F := Ideal) i) := rfl
  rw [e3, val_main_v19_apply]
  rfl

theorem v22_read (i : S8192x1.Idx) : val_main_v22 (F := Ideal) i = BitVec.ofNat 32 ((i 0).val / 64) := by
  refine Eq.trans ?_ (grp_nat (i 0).val (i 0).isLt)
  rw [val_main_v22_apply, val_main_call1_v11_apply, val_main_call1_v6_apply, val_main_call1_v10_apply, val_main_call1_v13_apply, val_main_call1_v5_apply,
    val_main_call1_v8_apply, val_main_call1_v9_apply, val_main_call1_v12_apply, val_main_call1_v2_apply, val_main_call1_v1_apply, val_main_call1_v7_apply]
  have e3 : val_main_call1_v3 (F := Ideal) i = sgn (val_main_v21 (F := Ideal) i) := rfl
  rw [e3, val_main_v21_apply]
  rfl

/-- The mask at a query and a key. -/
theorem mask_read (b : Fin 2) (h : Fin 8) (q κ : Fin 8192) :
    val_main_call2_v1 (F := Ideal) (at4 b h q κ) = if κ.val / 64 ≤ q.val / 64 then 1#1 else 0#1 := by
  rw [val_main_call2_v1_apply, val_main_v25_apply, val_main_v23_apply, val_main_v24_apply, v20_read, v22_read]
  exact le_words (κ.val / 64) (by omega) (q.val / 64) (by omega)

/-! ### The scores -/

theorem neg_inf : Ideal.ofBits .f32 0xFF800000#32 = ⊥ := by simp [Ideal.ofBits, Ideal.ieee]

theorem two : Ideal.ofBits .f32 0x40000000#32 = ((2 : ℝ) : EReal) := by
  simp [Ideal.ofBits, Ideal.ieee]
  rw [← EReal.coe_mul]
  norm_num

theorem ln2 (i : S2x8x8192x8192.Idx) : val_main_v16 (F := Ideal) i = ((Real.log 2 : ℝ) : EReal) := by
  rw [val_main_v16_apply, val_main_v15_apply, val_main_cst_apply, Ideal.ofBits_def, two, Ideal.hostUnary_log_def, Ideal.log_coe, if_neg (by norm_num)]

theorem v12_read (x0 : Q) (x1 : K) (b : Fin 2) (h : Fin 8) (q κ : Fin 8192) :
    val_main_v12 (F := Ideal) x0 x1 (at4 b h q κ) = score x0 x1 b h q κ := by
  rw [val_main_v12_apply]
  exact Finset.sum_congr rfl fun x _ => congrArg₂ (· * ·) (v4_read x0 _ b q h x rfl rfl rfl rfl) (v6_read x1 _ b κ h x rfl rfl rfl rfl)

theorem v26_read (x0 : Q) (x1 : K) (b : Fin 2) (h : Fin 8) (q κ : Fin 8192) :
    val_main_v26 (F := Ideal) x0 x1 (at4 b h q κ) = shown x0 x1 b h q κ * ((Real.log 2 : ℝ) : EReal) := by
  rw [val_main_v26_apply, mask_read, val_main_v17_apply, val_main_v14_apply, val_main_v13_apply, v12_read, Ideal.extf_def, Ideal.truncf_def, ln2, val_main_call2_v2_apply, val_main_call2_v0_apply, val_main_cst_1_apply,
    Ideal.ofBits_def, neg_inf, Ideal.mulf_def, shown]
  by_cases hm : κ.val / 64 ≤ q.val / 64
  · rw [if_pos hm, if_pos hm]; rfl
  · rw [if_neg hm, if_neg hm, EReal.bot_mul_coe_of_pos (Real.log_pos (by norm_num))]; rfl

/-- A query's greatest score, in the reference's units. -/
theorem v27_read (x0 : Q) (x1 : K) (b : Fin 2) (h : Fin 8) (q : Fin 8192) :
    val_main_v27 (F := Ideal) x0 x1 (at3 b h q) = Finset.univ.fold max ⊥ (fun κ : Fin 8192 => shown x0 x1 b h q κ * ((Real.log 2 : ℝ) : EReal)) := by
  have hr : S2x8x8192x8192.Reduces [3] S2x8x8192 := by decide
  have e := Host.reduce_eq_fold_single (max : EReal → EReal → EReal) (val_main_v26 (F := Ideal) x0 x1) (val_main_cst_2 (F := Ideal))
    reducesTo_S2x8x8192x8192_S2x8x8192_d3 hr h_S_ (at3 b h q)
  refine Eq.trans e ?_
  rw [val_main_cst_2_apply, Ideal.ofBits_def, neg_inf]
  refine congrArg (Finset.fold max (⊥ : EReal) · Finset.univ) (funext fun κ => ?_)
  refine Eq.trans (congrArg (val_main_v26 (F := Ideal) x0 x1) (funext fun a => ?_)) (v26_read x0 x1 b h q κ)
  match a with
  | ⟨0, _⟩ => rfl
  | ⟨1, _⟩ => rfl
  | ⟨2, _⟩ => rfl
  | ⟨3, _⟩ => rfl

/-! ### The result -/

theorem shown_ne_top (x0 : Q) (x1 : K) (b : Fin 2) (h : Fin 8) (q : Fin 8192) (ht : ∀ κ, score x0 x1 b h q κ ≠ ⊤) (κ : Fin 8192) : shown x0 x1 b h q κ ≠ ⊤ := by
  unfold shown
  split
  · exact ht κ
  · exact bot_ne_top

theorem shown_first (x0 : Q) (x1 : K) (b : Fin 2) (h : Fin 8) (q : Fin 8192) (hb : ∀ κ, score x0 x1 b h q κ ≠ ⊥) : shown x0 x1 b h q 0 ≠ ⊥ := by
  unfold shown
  rw [if_pos (by simp)]
  exact hb 0

/-- The offset the weights are taken against is a real. -/
theorem offset (x0 : Q) (x1 : K) (b : Fin 2) (h : Fin 8) (q : Fin 8192) (ht : ∀ κ, score x0 x1 b h q κ ≠ ⊤) (hb : ∀ κ, score x0 x1 b h q κ ≠ ⊥) :
    ∃ μ : ℝ, val_main_v29 (F := Ideal) x0 x1 (at3 b h q) = (μ : EReal) := by
  rw [val_main_v29_apply, v27_read, val_main_v28_apply, val_main_cst_3_apply, Ideal.ofBits_def, neg_inf, Ideal.maximumf_def, max_eq_right bot_le]
  refine real_of (fold_max_ne_bot _ _ (Finset.mem_univ (0 : Fin 8192)) ?_) (fold_max_ne_top _ _ fun κ _ => mul_log2_ne_top (shown_ne_top x0 x1 b h q ht κ))
  obtain ⟨r, e⟩ := real_of (shown_first x0 x1 b h q hb) (shown_ne_top x0 x1 b h q ht 0)
  rw [e, ← EReal.coe_mul]
  exact EReal.coe_ne_bot _

/-- A weight before it is divided by the sum. -/
theorem v33_read (x0 : Q) (x1 : K) (b : Fin 2) (h : Fin 8) (q κ : Fin 8192) {μ : ℝ} (e : val_main_v29 (F := Ideal) x0 x1 (at3 b h q) = (μ : EReal)) :
    val_main_v33 (F := Ideal) x0 x1 (at4 b h q κ) = Ideal.exp (shown x0 x1 b h q κ * ((Real.log 2 : ℝ) : EReal) - (μ : EReal)) := by
  rw [val_main_v33_apply, val_main_v32_apply, v26_read, val_main_v31_apply, val_main_v30_apply, Ideal.hostUnary_exp_def, Ideal.subf_def]
  have ei : idx_main_v30 (idx_main_v31 (at4 b h q κ)) = at3 b h q := funext fun a => by
    match a with
    | ⟨0, _⟩ => rfl
    | ⟨1, _⟩ => rfl
    | ⟨2, _⟩ => rfl
  rw [ei, e]

/-- The sum of a query's weights. -/
theorem v34_read (x0 : Q) (x1 : K) (b : Fin 2) (h : Fin 8) (q : Fin 8192) {μ : ℝ} (e : val_main_v29 (F := Ideal) x0 x1 (at3 b h q) = (μ : EReal)) :
    val_main_v34 (F := Ideal) x0 x1 (at3 b h q) = ∑ κ : Fin 8192, Ideal.exp (shown x0 x1 b h q κ * ((Real.log 2 : ℝ) : EReal) - (μ : EReal)) := by
  rw [val_main_v34_apply, val_main_cst_4_apply, Ideal.ofBits_def, Ideal.ofBits_zero_f32, zero_add]
  refine Finset.sum_congr rfl fun κ _ => Eq.trans (congrArg (val_main_v33 (F := Ideal) x0 x1) (funext fun a => ?_)) (v33_read x0 x1 b h q κ e)
  match a with
  | ⟨0, _⟩ => rfl
  | ⟨1, _⟩ => rfl
  | ⟨2, _⟩ => rfl
  | ⟨3, _⟩ => rfl

/-- A weight. -/
theorem v37_read (x0 : Q) (x1 : K) (b : Fin 2) (h : Fin 8) (q κ : Fin 8192) {μ : ℝ} (e : val_main_v29 (F := Ideal) x0 x1 (at3 b h q) = (μ : EReal)) :
    val_main_v37 (F := Ideal) x0 x1 (at4 b h q κ) = Ideal.div (Ideal.exp (shown x0 x1 b h q κ * ((Real.log 2 : ℝ) : EReal) - (μ : EReal)))
      (∑ κ : Fin 8192, Ideal.exp (shown x0 x1 b h q κ * ((Real.log 2 : ℝ) : EReal) - (μ : EReal))) := by
  rw [val_main_v37_apply, v33_read x0 x1 b h q κ e, val_main_v36_apply, val_main_v35_apply, Ideal.hostDivf_def]
  refine congrArg (Ideal.div _) (Eq.trans (congrArg (val_main_v34 (F := Ideal) x0 x1) (funext fun a => ?_)) (v34_read x0 x1 b h q e))
  match a with
  | ⟨0, _⟩ => rfl
  | ⟨1, _⟩ => rfl
  | ⟨2, _⟩ => rfl

/-- A weight after its cast to the values' format, which over the extended reals keeps it. -/
theorem v39_read (x0 : Q) (x1 : K) (b : Fin 2) (h : Fin 8) (q κ : Fin 8192) {μ : ℝ} (e : val_main_v29 (F := Ideal) x0 x1 (at3 b h q) = (μ : EReal)) :
    val_main_v39 (F := Ideal) x0 x1 (at4 b h q κ) = Ideal.div (Ideal.exp (shown x0 x1 b h q κ * ((Real.log 2 : ℝ) : EReal) - (μ : EReal)))
      (∑ κ : Fin 8192, Ideal.exp (shown x0 x1 b h q κ * ((Real.log 2 : ℝ) : EReal) - (μ : EReal))) := by
  rw [val_main_v39_apply, val_main_v38_apply, Ideal.extf_def, Ideal.truncf_def]
  exact v37_read x0 x1 b h q κ e

/-- The reference's result at row `8192 * b + q`, column `64 * h + d`. -/
theorem result (x0 : Q) (x1 : K) (x2 : V) (i : S16384x512.Idx) (b : Fin 2) (q : Fin 8192) (h : Fin 8) (d : Fin 64)
    (e0 : (i 0).val = 8192 * b.val + q.val) (e1 : (i 1).val = 64 * h.val + d.val)
    (ht : ∀ κ, score x0 x1 b h q κ ≠ ⊤) (hb : ∀ κ, score x0 x1 b h q κ ≠ ⊥) :
    val_main_v43 (F := Ideal) x0 x1 x2 i = mean Finset.univ (value x2 b h d) (shown x0 x1 b h q) := by
  obtain ⟨μ, e⟩ := offset x0 x1 b h q ht hb
  rw [← softmax_mean Finset.univ (value x2 b h d) (shown x0 x1 b h q) (fun κ _ => shown_ne_top x0 x1 b h q ht κ) (Finset.mem_univ 0)
    (shown_first x0 x1 b h q hb) μ, val_main_v43_apply, val_main_v42_apply, val_main_v41_apply, val_main_v40_apply, Ideal.truncf_def]
  have f0 : ((i 0).val * 512 + (i 1).val) / 4194304 = b.val := by rw [e0, e1]; omega
  have f1 : ((i 0).val * 512 + (i 1).val) / 512 % 8192 = q.val := by rw [e0, e1]; omega
  have f2 : ((i 0).val * 512 + (i 1).val) / 64 % 8 = h.val := by rw [e0, e1]; omega
  have f3 : ((i 0).val * 512 + (i 1).val) % 64 = d.val := by rw [e0, e1]; omega
  refine Finset.sum_congr rfl fun κ _ => congrArg₂ (· * ·) (v11_read x2 _ b κ h d f0 rfl f2 f3)
    (Eq.trans (congrArg (val_main_v39 (F := Ideal) x0 x1) (funext fun a => Fin.ext ?_)) (v39_read x0 x1 b h q κ e))
  match a with
  | ⟨0, _⟩ => exact f0
  | ⟨1, _⟩ => exact f2
  | ⟨2, _⟩ => exact f1
  | ⟨3, _⟩ => rfl

end Cert.Proof.Ref
-- ==== Proof.PreIdeal.lean ====
/- What the precondition says, read at an index: the queries and the keys are reals, and each head's value rows carry a row
   of ones at row 64. -/
module

public import proofs.«01_k».proof.Proof.Gen.Pre_scores_finite_and_ones_kept
public import Idealize.ShloMosaic.Lib.ReduceAll
public import Idealize.ShloMosaic.Lib.Pipeline.Value
public import Idealize.ShloMosaic.Lib.ValueIdx
public import Idealize.ShloMosaic.Lib.Pointwise.Index
public import Idealize.ShloMosaic.PureOps.Ideal.Laws

@[expose] public section

set_option maxRecDepth 16384

noncomputable section

namespace Cert.Proof.Pre

open Cert.Pre_scores_finite_and_ones_kept Cert.Pre_scores_finite_and_ones_kept.Gen
open Idealize.ShloMosaic Idealize.ShloMosaic.TcCoe

instance : Subsingleton S_.Idx := ⟨fun a b => funext fun k => k.elim0⟩

theorem and_one {s : Shape} (x y : IVec s 1) (j : s.Idx) (h : andi x y j = 1#1) : x j = 1#1 ∧ y j = 1#1 := by
  have g : ∀ a b : BitVec 1, IntOp.andi a b = 1#1 → a = 1#1 ∧ b = 1#1 := by decide
  exact g _ _ h

theorem inf : Ideal.ofBits .f32 0x7F800000#32 = ⊤ := by simp [Ideal.ofBits, Ideal.ieee]

theorem one : Ideal.ofBits .f32 0x3F800000#32 = 1 := by
  have e : Ideal.ofBits .f32 0x3F800000#32 = ((1 : ℝ) : EReal) := by
    simp [Ideal.ofBits, Ideal.ieee]
    rw [← EReal.coe_mul]
    norm_num
  rw [e, EReal.coe_one]

theorem ofBool_one {b : Bool} (h : BitVec.ofBool b = 1#1) : b = true := by
  cases b
  · exact absurd h (by decide)
  · rfl

/-- An absolute value below `⊤` is a real's. -/
theorem real_of_abs {a : EReal} (h : Ideal.cmp .olt (max a (-a)) (Ideal.ofBits .f32 0x7F800000#32) = 1#1) : ∃ r : ℝ, a = (r : EReal) := by
  rw [inf] at h
  have h' : max a (-a) < ⊤ := of_decide_eq_true (ofBool_one h)
  have ht : a ≠ ⊤ := (lt_of_le_of_lt (le_max_left _ _) h').ne
  have hb : a ≠ ⊥ := by
    rintro rfl
    exact absurd (lt_of_le_of_lt (le_max_right _ _) h') (by simp)
  exact ⟨a.toReal, (EReal.coe_toReal ht hb).symm⟩

variable (x0 : FVec Ideal S34x1024x512 .bf16) (x1 : FVec Ideal S16384x1024 .bf16) (x2 : FVec Ideal S32x640x512 .bf16) (j : S_.Idx)

theorem split (h : fn (F := Ideal) x0 x1 x2 j = 1#1) :
    (∀ i : S32x1024x512.Idx, ∃ r : ℝ, extractStridedSlice S32x1024x512 ![0, 0, 0] x0 slices_S34x1024x512_S32x1024x512_0_0_0 i = (r : EReal)) ∧
    (∀ i : S16384x1024.Idx, ∃ r : ℝ, x1 i = (r : EReal)) ∧
    (∀ i : S32x8x512.Idx, shapeCast S32x8x512 (extractStridedSlice S32x8x1x512 ![0, 0, 64, 0]
      (shapeCast S32x8x80x512 x2 shapeCasts_S32x640x512_S32x8x80x512) slices_S32x8x80x512_S32x8x1x512_0_0_64_0) shapeCasts_S32x8x1x512_S32x8x512 i = (1 : EReal)) := by
  obtain ⟨h12, h3⟩ := and_one _ _ j h
  obtain ⟨h1, h2⟩ := and_one _ _ j h12
  refine ⟨fun i => ?_, fun i => ?_, fun i => ?_⟩
  · exact real_of_abs (Host.reduce_andi_all _ _ _ _ j h1 i)
  · exact real_of_abs (Host.reduce_andi_all _ _ _ _ j h2 i)
  · have e := Host.reduce_andi_all _ _ _ _ j h3 i
    have e' : Ideal.cmp .oeq (shapeCast S32x8x512 (extractStridedSlice S32x8x1x512 ![0, 0, 64, 0]
      (shapeCast S32x8x80x512 x2 shapeCasts_S32x640x512_S32x8x80x512) slices_S32x8x80x512_S32x8x1x512_0_0_64_0) shapeCasts_S32x8x1x512_S32x8x512 i)
      (Ideal.ofBits .f32 0x3F800000#32) = 1#1 := e
    rw [one] at e'
    exact of_decide_eq_true (ofBool_one e')

/-- The queries of the first 32 slabs are reals. -/
theorem queries (h : fn (F := Ideal) x0 x1 x2 j = 1#1) (a : Fin 34) (ha : a.val < 32) (p : Fin 1024) (c : Fin 512) : ∃ r : ℝ, x0 (ix3 a p c) = (r : EReal) := by
  obtain ⟨r, e⟩ := (split x0 x1 x2 j h).1 (ix3 (⟨a.val, ha⟩ : Fin 32) p c)
  refine ⟨r, Eq.trans (Eq.symm ?_) e⟩
  refine extractStridedSlice_apply ![0, 0, 0] x0 slices_S34x1024x512_S32x1024x512_0_0_0 _ (ix3 a p c) (fun b => ?_)
  match b with
  | ⟨0, _⟩ => show a.val = 0 + a.val; omega
  | ⟨1, _⟩ => show p.val = 0 + p.val; omega
  | ⟨2, _⟩ => show c.val = 0 + c.val; omega

/-- The keys are reals. -/
theorem keys (h : fn (F := Ideal) x0 x1 x2 j = 1#1) (i : S16384x1024.Idx) : ∃ r : ℝ, x1 i = (r : EReal) := (split x0 x1 x2 j h).2.1 i

/-- Row 64 of each head's value rows is ones. -/
theorem ones (h : fn (F := Ideal) x0 x1 x2 j = 1#1) (a : Fin 32) (g : Fin 8) (c : Fin 512) (p : Fin 640) (hp : p.val = 80 * g.val + 64) : x2 (ix3 a p c) = (1 : EReal) := by
  refine Eq.trans (Eq.symm ?_) ((split x0 x1 x2 j h).2.2 (ix3 a g c))
  refine Eq.trans (shapeCast_apply _ shapeCasts_S32x8x1x512_S32x8x512 (ix3 a g c) (fun b => match b with
      | ⟨0, _⟩ => a | ⟨1, _⟩ => g | ⟨2, _⟩ => (⟨0, by decide⟩ : Fin 1) | ⟨3, _⟩ => c : S32x8x1x512.Idx) ?_) ?_
  · rewrite [Shape.rowMajor_val_four, Shape.rowMajor_val_three]
    show ((a.val * 8 + g.val) * 1 + 0) * 512 + c.val = (a.val * 8 + g.val) * 512 + c.val
    omega
  refine Eq.trans (extractStridedSlice_apply ![0, 0, 64, 0] _ slices_S32x8x80x512_S32x8x1x512_0_0_64_0 _ (fun b => match b with
      | ⟨0, _⟩ => a | ⟨1, _⟩ => g | ⟨2, _⟩ => (⟨64, by decide⟩ : Fin 80) | ⟨3, _⟩ => c : S32x8x80x512.Idx) (fun b => ?_)) ?_
  · match b with
    | ⟨0, _⟩ => show a.val = 0 + a.val; omega
    | ⟨1, _⟩ => show g.val = 0 + g.val; omega
    | ⟨2, _⟩ => rfl
    | ⟨3, _⟩ => show c.val = 0 + c.val; omega
  refine shapeCast_apply x2 shapeCasts_S32x640x512_S32x8x80x512 _ (ix3 a p c) ?_
  rewrite [Shape.rowMajor_val_four, Shape.rowMajor_val_three]
  show (a.val * 640 + p.val) * 512 + c.val = ((a.val * 8 + g.val) * 80 + 64) * 512 + c.val
  rw [hp]; omega

end Cert.Proof.Pre
-- ==== Proof.EqIdeal.lean ====
/- The two results are one: under the precondition the kernel's result array is the reference's. -/
module

public import proofs.«01_k».proof.Proof.ValueIdeal
public import proofs.«01_k».proof.Proof.SweepAlg
public import proofs.«01_k».proof.Proof.RefIdeal
public import proofs.«01_k».proof.Proof.PreIdeal

@[expose] public section

set_option maxRecDepth 16384

noncomputable section

namespace Cert.Proof.Same

open Cert.KernelIdeal Cert.KernelIdeal.Gen Cert.Proof.Step Cert.Proof.Soft
open Idealize.ShloMosaic Idealize.ShloMosaic.TcCoe

/-- A sum of products of reals is a real. -/
theorem sum_real {ι : Type} (t : Finset ι) (f g : ι → EReal) (hf : ∀ i, ∃ r : ℝ, f i = (r : EReal)) (hg : ∀ i, ∃ r : ℝ, g i = (r : EReal)) :
    ∃ r : ℝ, ∑ i ∈ t, f i * g i = (r : EReal) := by
  classical
  induction t using Finset.induction_on with
  | empty => exact ⟨0, by simp⟩
  | insert a t ha ih =>
    obtain ⟨r, e⟩ := ih
    obtain ⟨x, ex⟩ := hf a
    obtain ⟨y, ey⟩ := hg a
    exact ⟨x * y + r, by rw [Finset.sum_insert ha, e, ex, ey, ← EReal.coe_mul, ← EReal.coe_add]⟩

/-- A mean over the first `N` naturals is one over `Fin N`. -/
theorem mean_fin (N : ℕ) (v s : ℕ → EReal) (v' s' : Fin N → EReal) (hv : ∀ κ : Fin N, v κ.val = v' κ) (hs : ∀ κ : Fin N, s κ.val = s' κ) :
    mean (Finset.range N) v s = mean Finset.univ v' s' := by
  have h1 : ∑ i ∈ Finset.range N, v i * Ideal.exp2 (s i) = ∑ κ : Fin N, v' κ * Ideal.exp2 (s' κ) := by
    rw [Finset.sum_range]
    exact Finset.sum_congr rfl fun κ _ => by rw [hv, hs]
  have h2 : ∑ i ∈ Finset.range N, Ideal.exp2 (s i) = ∑ κ : Fin N, Ideal.exp2 (s' κ) := by
    rw [Finset.sum_range]
    exact Finset.sum_congr rfl fun κ _ => by rw [hs]
  rw [mean, mean, h1, h2]

variable (m : (ℓ : Loc nD τ sig) → Buf (Elt Ideal) ℓ) (c : Dev nD)

/-- The kernel's arguments. -/
abbrev a0 : Ref.Q := m ((c.tc : Thread nD τ).loc main_arg0)
abbrev a1 : Ref.K := m ((c.tc : Thread nD τ).loc main_arg1)
abbrev a2 : Ref.V := m ((c.tc : Thread nD τ).loc main_arg2)

/-- A point's sequence. -/
def seqOf (t : Fin cfg0.N) : Fin 2 := ⟨t.val / 16, by have := ValueIdeal.lt32 t; omega⟩

/-- The position in its sequence of a point's query. -/
def posOf (t : Fin cfg0.N) (r : Fin 512) : Fin 8192 := ⟨512 * (t.val % 16) + r.val, by omega⟩

/-- A tile's scores are the reference's. -/
theorem sc_eq (t : Fin cfg0.N) (h : Fin 8) (r : Fin 512) (κ : ℕ) :
    Alg.sc (iblk m c 0 t) (iblk m c 1 t) h r κ = Ref.score (a0 m c) (a1 m c) (seqOf t) h (posOf t r) ⟨κ % 8192, Nat.mod_lt _ (by decide)⟩ := by
  have ht := ValueIdeal.lt32 t
  refine Finset.sum_congr rfl fun x _ => ?_
  rw [ValueIdeal.iblk1_apply, ValueIdeal.iblk0_apply]
  refine (mul_comm _ _).trans (congrArg₂ (· * ·) (congrArg (m ((c.tc : Thread nD τ).loc main_arg0)) (funext fun a => Fin.ext ?_)) rfl)
  match a with
  | ⟨0, _⟩ => show t.val = 16 * (t.val / 16) + (512 * (t.val % 16) + r.val) / 512; omega
  | ⟨1, _⟩ => rfl
  | ⟨2, _⟩ => show r.val = (512 * (t.val % 16) + r.val) % 512; omega

variable (hp : Cert.Pre_scores_finite_and_ones_kept.fn (F := Ideal) (a0 m c) (a1 m c) (a2 m c) = fun _ => 1#1)

include hp

theorem score_real (b : Fin 2) (h : Fin 8) (q κ : Fin 8192) : ∃ r : ℝ, Ref.score (a0 m c) (a1 m c) b h q κ = (r : EReal) :=
  sum_real _ _ _ (fun x => Pre.queries _ _ _ _ (congrFun hp (Shape.Idx.first Cert.Pre_scores_finite_and_ones_kept.Gen.h_S_)) _ (by show 16 * b.val + q.val / 512 < 32; omega) _ _)
    (fun x => Pre.keys _ _ _ _ (congrFun hp (Shape.Idx.first Cert.Pre_scores_finite_and_ones_kept.Gen.h_S_)) _)

/-- The kernel's result array is the reference's. -/
theorem val_eq : ValueIdeal.val m c = Cert.ReferenceIdeal.Read.val_main_v43 (F := Ideal) (a0 m c) (a1 m c) (a2 m c) := by
  funext (i : S16384x512.Idx)
  have i0 : (i 0).val < 16384 := (i 0).isLt
  have i1 : (i 1).val < 512 := (i 1).isLt
  have hreal := score_real m c hp
  have ht : ∀ b h q κ, Ref.score (a0 m c) (a1 m c) b h q κ ≠ ⊤ := fun b h q κ => by
    obtain ⟨r, e⟩ := hreal b h q κ
    rw [e]; exact EReal.coe_ne_top r
  have hb : ∀ b h q κ, Ref.score (a0 m c) (a1 m c) b h q κ ≠ ⊥ := fun b h q κ => by
    obtain ⟨r, e⟩ := hreal b h q κ
    rw [e]; exact EReal.coe_ne_bot r
  have p0 : (ValueIdeal.point i).val = (i 0).val / 512 := rfl
  unfold ValueIdeal.val
  generalize ValueIdeal.point i = t at *
  have t32 := ValueIdeal.lt32 t
  let r : Fin 512 := ⟨(i 0).val % 512, Nat.mod_lt _ (by decide)⟩
  let h : Fin 8 := ⟨(i 1).val / 64, by omega⟩
  let d : Fin 64 := ⟨(i 1).val % 64, by omega⟩
  have ei : (i 1 : Fin 512) = Alg.at64 h d := Fin.ext (by show (i 1).val = 64 * ((i 1).val / 64) + (i 1).val % 64; omega)
  have ex : (ix2 (⟨(i 0).val % 512, Nat.mod_lt _ (by decide)⟩ : Fin 512) (i 1) : S512x512.Idx) = ix2 r (Alg.at64 h d) := congrArg (ix2 r) ei
  rw [ex, Alg.tileOut_apply (iblk m c 0 t) (iblk m c 1 t) (iblk m c 2 t) (fun h r κ => by rw [sc_eq]; exact ht _ _ _ _) (fun h r κ => by rw [sc_eq]; exact hb _ _ _ _)
    (fun h κ => ?_) (grid0.coords t) r h d,
    Ref.result (a0 m c) (a1 m c) (a2 m c) i (seqOf t) (posOf t r) h d
      (by show (i 0).val = 8192 * (t.val / 16) + (512 * (t.val % 16) + (i 0).val % 512); omega)
      (by show (i 1).val = 64 * ((i 1).val / 64) + (i 1).val % 64; omega) (fun κ => ht _ _ _ _) (fun κ => hb _ _ _ _)]
  · refine mean_fin 8192 _ _ _ _ (fun κ => ?_) (fun κ => ?_)
    · have hκ := κ.isLt
      unfold Alg.vl
      rw [ValueIdeal.iblk2_apply]
      refine congrArg (m ((c.tc : Thread nD τ).loc main_arg2)) (funext fun a => Fin.ext ?_)
      match a with
      | ⟨0, _⟩ => show 16 * (t.val / 16) + κ.val / 512 % 16 = 16 * (t.val / 16) + κ.val / 512; omega
      | ⟨1, _⟩ => rfl
      | ⟨2, _⟩ => rfl
    · have eκ : (⟨κ.val % 8192, Nat.mod_lt _ (by decide)⟩ : Fin 8192) = κ := Fin.ext (Nat.mod_eq_of_lt κ.isLt)
      have et : Words.tile (grid0.coords t) = t.val % 16 := ValueIdeal.coord_eq t
      unfold Alg.seen Ref.shown
      rw [sc_eq, eκ, et]
      rfl
  · unfold Alg.vl
    rw [ValueIdeal.iblk2_apply]
    exact Pre.ones _ _ _ _ (congrFun hp (Shape.Idx.first Cert.Pre_scores_finite_and_ones_kept.Gen.h_S_)) _ h _ _ rfl

end Cert.Proof.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_scores_finite_and_ones_kept
public import proofs.«01_k».proof.Proof.Gen.ReferenceIdeal.Run
public import proofs.«01_k».proof.Proof.Gen.ReferenceIdeal.Read
public import proofs.«01_k».proof.Proof.FrameIdeal
public import proofs.«01_k».proof.Proof.FrameWords
public import proofs.«01_k».proof.Proof.EqIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_scores_finite_and_ones_kept.Gen.facts, by
  have hr : ∀ (m : (ℓ : Loc Cert.ReferenceIdeal.nD Cert.ReferenceIdeal.τ Cert.ReferenceIdeal.sig) → Buf (Elt Ideal) ℓ) (g : Dev Cert.ReferenceIdeal.nD → PrngReg), _ := fun m g =>
    (θ_run Cert.ReferenceIdeal.defs _ _).mono (fun r h => And.intro (fun c => (h c).2) (sem_eq_zero_of_no_sems (by decide) r.2)) (Cert.ReferenceIdeal.Value.run m g)
  refine ⟨fun m g _ => FrameWords.frame_run m g, fun m g _ => FrameIdeal.frame_run m g, fun m g _ => FrameIdeal.frame_run m g,
    fun m g _ => hr m g, fun m g _ => hr m g, ?_, fun m g m' g' hp hm => ⟨ValueIdeal.val m, ValueIdeal.run m g, ?_⟩⟩
  · exact IdealRules.named_const.statement Cert.KernelIdeal.κ "mask" .f32 0xF149F2CA#32 _ rfl
  · refine (θ_run Cert.ReferenceIdeal.defs _ _).mono (fun r h c => ⟨(h c).1.trans ?_, (h c).2⟩) (Cert.ReferenceIdeal.Value.run m' g')
    obtain ⟨e0, e1, e2⟩ := hm c
    refine (Cert.ReferenceIdeal.Read.val_main_v43_eq m' c).trans ?_
    rw [e0, e1, e2]
    exact (Same.val_eq m c (hp c)).symm⟩

end Cert.Proof

end
